-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_counts_not_negative [hPre_counts_not_negative : Cert.Pre_counts_not_negative.Facts] (m : (ℓ : Loc Cert.KernelIdeal.nD Cert.KernelIdeal.τ Cert.KernelIdeal.sig) → Buf (Elt Ideal) ℓ) : Prop :=
  ∀ c : Dev Cert.KernelIdeal.nD,
    (Cert.Pre_counts_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts_not_negative [hPre_counts_not_negative : Cert.Pre_counts_not_negative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_not_negative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_counts_not_negative [hKernelIdeal : Cert.KernelIdeal.Facts] [hPre_counts_not_negative : Cert.Pre_counts_not_negative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_counts_not_negative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_counts_not_negative [hReferenceIdeal : Cert.ReferenceIdeal.Facts] [hPre_counts_not_negative : Cert.Pre_counts_not_negative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_not_negative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_counts_not_negative [hKernelIdeal : Cert.KernelIdeal.Facts] [hReferenceIdeal : Cert.ReferenceIdeal.Facts] [hPre_counts_not_negative : Cert.Pre_counts_not_negative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_counts_not_negative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_counts_not_negative : Cert.Pre_counts_not_negative.Facts),
    quiescent_Kernel (hKernel := hKernel)
    ∧ quiescent_KernelIdeal (hKernelIdeal := hKernelIdeal)
    ∧ quiescent_KernelIdeal_pre_counts_not_negative (hKernelIdeal := hKernelIdeal) (hPre_counts_not_negative := hPre_counts_not_negative)
    ∧ quiescent_ReferenceIdeal (hReferenceIdeal := hReferenceIdeal)
    ∧ quiescent_ReferenceIdeal_pre_counts_not_negative (hReferenceIdeal := hReferenceIdeal) (hPre_counts_not_negative := hPre_counts_not_negative)
    ∧ preserves_Kernel_KernelIdeal
    ∧ algebraic_KernelIdeal_ReferenceIdeal_pre_counts_not_negative (hKernelIdeal := hKernelIdeal) (hReferenceIdeal := hReferenceIdeal) (hPre_counts_not_negative := hPre_counts_not_negative)
-- ==== Pre_counts_not_negative.lean ====
abbrev S16 : Shape := ⟨1, ![16]⟩
abbrev S25088x128 : Shape := ⟨2, ![25088, 128]⟩
abbrev S3136x128 : Shape := ⟨2, ![3136, 128]⟩
abbrev S2x784x8x128 : Shape := ⟨4, ![2, 784, 8, 128]⟩
abbrev S_ : Shape := ⟨0, ![]⟩

class Facts : Prop where
  bcast_S_S2x784x8x128 : S_.BroadcastsInDim S2x784x8x128 (![] : Fin 0 → Fin S2x784x8x128.rank)
  reducesTo_S2x784x8x128_S_d0_1_2_3 : S2x784x8x128.ReducesTo [0, 1, 2, 3] S_
  h_S_ : 0 < S_.numel

variable [Facts]

def fn {F : FTy → Type} [FloatOps F] (main_arg0 : IVec S16 32) (main_arg1 : IVec S25088x128 32) (main_arg2 : IVec S3136x128 32) (main_arg3 : IVec S2x784x8x128 32) : IVec S_ 1 :=
  let main_c : IVec S_ 32 := constantI S_ 32 0#32
  let main_v0 : IVec S2x784x8x128 32 := broadcastInDim S2x784x8x128 ![] bcast_S_S2x784x8x128 main_c
  let main_v1 : IVec S2x784x8x128 1 := cmpi .sge main_arg3 main_v0
  let main_c_0 : IVec S_ 1 := constantI S_ 1 1#1
  let main_v2 : IVec S_ 1 := (fun x v => Host.reduce IntOp.andi x v reducesTo_S2x784x8x128_S_d0_1_2_3 h_S_) main_v1 main_c_0
  main_v2
-- ==== Kernel.lean ====
abbrev S16 : Shape := ⟨1, ![16]⟩
abbrev S25088x128 : Shape := ⟨2, ![25088, 128]⟩
abbrev S3136x128 : Shape := ⟨2, ![3136, 128]⟩
abbrev S2x784x8x128 : Shape := ⟨4, ![2, 784, 8, 128]⟩
abbrev S100000x256 : Shape := ⟨2, ![100000, 256]⟩
abbrev S16x256 : Shape := ⟨2, ![16, 256]⟩
abbrev S512x128 : Shape := ⟨2, ![512, 128]⟩
abbrev S1 : Shape := ⟨1, ![1]⟩
abbrev S64x128 : Shape := ⟨2, ![64, 128]⟩
abbrev S2x16x8x128 : Shape := ⟨4, ![2, 16, 8, 128]⟩
abbrev S2048x256 : Shape := ⟨2, ![2048, 256]⟩
abbrev S8x128 : Shape := ⟨2, ![8, 128]⟩
abbrev S8x256 : Shape := ⟨2, ![8, 256]⟩
abbrev S32x256 : Shape := ⟨2, ![32, 256]⟩
abbrev S16x128 : Shape := ⟨2, ![16, 128]⟩
abbrev S128x256 : Shape := ⟨2, ![128, 256]⟩
abbrev S8x128x1 : Shape := ⟨3, ![8, 128, 1]⟩
abbrev S32x128 : Shape := ⟨2, ![32, 128]⟩
abbrev S2x1x8x128 : Shape := ⟨4, ![2, 1, 8, 128]⟩
abbrev S2x8x128 : Shape := ⟨3, ![2, 8, 128]⟩
abbrev S256x256 : Shape := ⟨2, ![256, 256]⟩

abbrev nBuf : Space → Nat
  | .hbm => 5
  | .vmem => 9
  | .smem => 1
  | _ => 0

abbrev bufTy : (tb : Table) → Fin (tcTables nBuf tb) → BufTy
  | .hbm, ⟨0, _⟩ => ⟨S25088x128, .i32⟩
  | .hbm, ⟨1, _⟩ => ⟨S3136x128, .i32⟩
  | .hbm, ⟨2, _⟩ => ⟨S2x784x8x128, .i32⟩
  | .hbm, ⟨3, _⟩ => ⟨S100000x256, .bf16⟩
  | .hbm, ⟨4, _⟩ => ⟨S16x256, .f32⟩
  | .local _ .vmem, ⟨0, _⟩ => ⟨S512x128, .i32⟩
  | .local _ .vmem, ⟨1, _⟩ => ⟨S512x128, .i32⟩
  | .local _ .vmem, ⟨2, _⟩ => ⟨S64x128, .i32⟩
  | .local _ .vmem, ⟨3, _⟩ => ⟨S64x128, .i32⟩
  | .local _ .vmem, ⟨4, _⟩ => ⟨S2x16x8x128, .i32⟩
  | .local _ .vmem, ⟨5, _⟩ => ⟨S2x16x8x128, .i32⟩
  | .local _ .vmem, ⟨6, _⟩ => ⟨S2048x256, .bf16⟩
  | .local _ .vmem, ⟨7, _⟩ => ⟨S2048x256, .bf16⟩
  | .local _ .vmem, ⟨8, _⟩ => ⟨S16x256, .f32⟩
  | .local _ .smem, ⟨0, _⟩ => ⟨S16, .i32⟩
  | _, _ => ⟨S25088x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0_0 : Ref sig .tc := ⟨.hbm, 3, rfl⟩
abbrev main_v0_1 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![49], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) (v0 : BitVec 32) : BitVec 1 :=
  let arg0 : BitVec 32 := BitVec.ofNat 32 (i 0).val
  let c2048_i32 : BitVec 32 := 2048#32
  let v1 : BitVec 32 := Scalar.muli arg0 c2048_i32
  let v5 : BitVec 1 := Scalar.cmpi .sge v1 v0
  let v6 : BitVec 32 := Scalar.extui v5
  let c0_i32_1 : BitVec 32 := 0#32
  let v7 : BitVec 1 := Scalar.cmpi .ne v6 c0_i32_1
  v7

def k0_cond3 (i : grid0.Coords) (v0 : BitVec 32) : BitVec 1 :=
  let arg0 : BitVec 32 := BitVec.ofNat 32 (i 0).val
  let c2048_i32 : BitVec 32 := 2048#32
  let v1 : BitVec 32 := Scalar.muli arg0 c2048_i32
  let v8 : BitVec 1 := Scalar.cmpi .slt v1 v0
  let v9 : BitVec 32 := Scalar.extui v8
  let c0_i32_2 : BitVec 32 := 0#32
  let v10 : BitVec 1 := Scalar.cmpi .ne v9 c0_i32_2
  v10

def k0_cond4 (i : grid0.Coords) (v0 : BitVec 32) : BitVec 1 :=
  let arg0 : BitVec 32 := BitVec.ofNat 32 (i 0).val
  let c2048_i32 : BitVec 32 := 2048#32
  let v1 : BitVec 32 := Scalar.muli arg0 c2048_i32
  let v50 : BitVec 32 := Scalar.subi v0 v1
  let c2048_i32_1097 : BitVec 32 := 2048#32
  let v3389 : BitVec 1 := Scalar.cmpi .slt v50 c2048_i32_1097
  let v3390 : BitVec 32 := Scalar.extui v3389
  let c0_i32_1098 : BitVec 32 := 0#32
  let v3391 : BitVec 1 := Scalar.cmpi .ne v3390 c0_i32_1098
  v3391

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def cc0_transform_0 (inb_S16_S1_0 : ∀ a, (![0] : Fin 1 → Nat) a + S1.size a ≤ S16.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S16) ![0] S1.size inb_S16_S1_0) numel1_S1
  let c1_i32 : BitVec 32 := 1#32
  let v1 : BitVec 32 := Scalar.subi v0 c1_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let v19 : BitVec 32 := Scalar.maxsi v18 c0_i32_5
  let v20 : BitVec 32 := Scalar.minsi arg0 v19
  let c0_i32_6 : BitVec 32 := 0#32
  let c0_i32_7 : BitVec 32 := 0#32
  ![v20.toNat, c0_i32_6.toNat]

def cc0_transform_1 (inb_S16_S1_0 : ∀ a, (![0] : Fin 1 → Nat) a + S1.size a ≤ S16.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S16) ![0] S1.size inb_S16_S1_0) numel1_S1
  let c1_i32 : BitVec 32 := 1#32
  let v1 : BitVec 32 := Scalar.subi v0 c1_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let v19 : BitVec 32 := Scalar.maxsi v18 c0_i32_5
  let v20 : BitVec 32 := Scalar.minsi arg0 v19
  let c0_i32_6 : BitVec 32 := 0#32
  let c0_i32_7 : BitVec 32 := 0#32
  ![v20.toNat, c0_i32_6.toNat]

def cc0_transform_2 (inb_S16_S1_0 : ∀ a, (![0] : Fin 1 → Nat) a + S1.size a ≤ S16.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S16) ![0] S1.size inb_S16_S1_0) numel1_S1
  let c1_i32 : BitVec 32 := 1#32
  let v1 : BitVec 32 := Scalar.subi v0 c1_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let v19 : BitVec 32 := Scalar.maxsi v18 c0_i32_5
  let v20 : BitVec 32 := Scalar.minsi arg0 v19
  let c0_i32_6 : BitVec 32 := 0#32
  let c0_i32_7 : BitVec 32 := 0#32
  let c0_i32_8 : BitVec 32 := 0#32
  let c0_i32_9 : BitVec 32 := 0#32
  ![c0_i32_6.toNat, v20.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x16x8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S16 : Shape := ⟨1, ![16]⟩
abbrev S25088x128 : Shape := ⟨2, ![25088, 128]⟩
abbrev S3136x128 : Shape := ⟨2, ![3136, 128]⟩
abbrev S2x784x8x128 : Shape := ⟨4, ![2, 784, 8, 128]⟩
abbrev S25088x1x128 : Shape := ⟨3, ![25088, 1, 128]⟩
abbrev S4 : Shape := ⟨1, ![4]⟩
abbrev S_ : Shape := ⟨0, ![]⟩
abbrev S1x4x1 : Shape := ⟨3, ![1, 4, 1]⟩
abbrev S25088x4x128 : Shape := ⟨3, ![25088, 4, 128]⟩
abbrev S100352x128 : Shape := ⟨2, ![100352, 128]⟩
abbrev S784x4x1x128 : Shape := ⟨4, ![784, 4, 1, 128]⟩
abbrev S2 : Shape := ⟨1, ![2]⟩
abbrev S1x1x2x1 : Shape := ⟨4, ![1, 1, 2, 1]⟩
abbrev S784x4x2x128 : Shape := ⟨4, ![784, 4, 2, 128]⟩
abbrev S784x8x128 : Shape := ⟨3, ![784, 8, 128]⟩
abbrev S784x128x8 : Shape := ⟨3, ![784, 128, 8]⟩
abbrev S100352x8 : Shape := ⟨2, ![100352, 8]⟩
abbrev S2x8x784x128 : Shape := ⟨4, ![2, 8, 784, 128]⟩
abbrev S16x100352 : Shape := ⟨2, ![16, 100352]⟩
abbrev S100352x8x16 : Shape := ⟨3, ![100352, 8, 16]⟩
abbrev S100352x8x1 : Shape := ⟨3, ![100352, 8, 1]⟩
abbrev S100352x8x16x1 : Shape := ⟨4, ![100352, 8, 16, 1]⟩
abbrev S100352x8x16x2 : Shape := ⟨4, ![100352, 8, 16, 2]⟩
abbrev S100352x256 : Shape := ⟨2, ![100352, 256]⟩
abbrev S100352 : Shape := ⟨1, ![100352]⟩
abbrev S1 : Shape := ⟨1, ![1]⟩
abbrev S100352x1 : Shape := ⟨2, ![100352, 1]⟩
abbrev S16x256 : Shape := ⟨2, ![16, 256]⟩
abbrev S100000x256 : Shape := ⟨2, ![100000, 256]⟩

abbrev nBuf : Space → Nat
  | .hbm => 86
  | .vmem => 0
  | .smem => 0
  | _ => 0

abbrev bufTy : (tb : Table) → Fin (tcTables nBuf tb) → BufTy
  | .hbm, ⟨0, _⟩ => ⟨S16, .i32⟩
  | .hbm, ⟨1, _⟩ => ⟨S25088x128, .i32⟩
  | .hbm, ⟨2, _⟩ => ⟨S3136x128, .i32⟩
  | .hbm, ⟨3, _⟩ => ⟨S2x784x8x128, .i32⟩
  | .hbm, ⟨4, _⟩ => ⟨S25088x1x128, .i32⟩
  | .hbm, ⟨5, _⟩ => ⟨S4, .i32⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S1x4x1, .i32⟩
  | .hbm, ⟨10, _⟩ => ⟨S25088x4x128, .i32⟩
  | .hbm, ⟨11, _⟩ => ⟨S25088x4x128, .i32⟩
  | .hbm, ⟨12, _⟩ => ⟨S25088x4x128, .i32⟩
  | .hbm, ⟨13, _⟩ => ⟨S_, .i32⟩
  | .hbm, ⟨14, _⟩ => ⟨S25088x4x128, .i32⟩
  | .hbm, ⟨15, _⟩ => ⟨S25088x4x128, .i32⟩
  | .hbm, ⟨16, _⟩ => ⟨S100352x128, .i32⟩
  | .hbm, ⟨17, _⟩ => ⟨S784x4x1x128, .i32⟩
  | .hbm, ⟨18, _⟩ => ⟨S2, .i32⟩
  | .hbm, ⟨19, _⟩ => ⟨S_, .i32⟩
  | .hbm, ⟨20, _⟩ => ⟨S2, .i32⟩
  | .hbm, ⟨21, _⟩ => ⟨S2, .i32⟩
  | .hbm, ⟨22, _⟩ => ⟨S1x1x2x1, .i32⟩
  | .hbm, ⟨23, _⟩ => ⟨S784x4x2x128, .i32⟩
  | .hbm, ⟨24, _⟩ => ⟨S784x4x2x128, .i32⟩
  | .hbm, ⟨25, _⟩ => ⟨S784x4x2x128, .i32⟩
  | .hbm, ⟨26, _⟩ => ⟨S_, .i32⟩
  | .hbm, ⟨27, _⟩ => ⟨S784x4x2x128, .i32⟩
  | .hbm, ⟨28, _⟩ => ⟨S784x4x2x128, .i32⟩
  | .hbm, ⟨29, _⟩ => ⟨S784x4x2x128, .i16⟩
  | .hbm, ⟨30, _⟩ => ⟨S784x4x2x128, .bf16⟩
  | .hbm, ⟨31, _⟩ => ⟨S784x8x128, .bf16⟩
  | .hbm, ⟨32, _⟩ => ⟨S784x128x8, .bf16⟩
  | .hbm, ⟨33, _⟩ => ⟨S100352x8, .bf16⟩
  | .hbm, ⟨34, _⟩ => ⟨S2x8x784x128, .i32⟩
  | .hbm, ⟨35, _⟩ => ⟨S16x100352, .i32⟩
  | .hbm, ⟨36, _⟩ => ⟨S16x100352, .f32⟩
  | .hbm, ⟨37, _⟩ => ⟨S_, .i32⟩
  | .hbm, ⟨38, _⟩ => ⟨S100352x128, .i32⟩
  | .hbm, ⟨39, _⟩ => ⟨S100352x128, .i32⟩
  | .hbm, ⟨40, _⟩ => ⟨S_, .i32⟩
  | .hbm, ⟨41, _⟩ => ⟨S100352x128, .i32⟩
  | .hbm, ⟨42, _⟩ => ⟨S100352x128, .i1⟩
  | .hbm, ⟨43, _⟩ => ⟨S100352x128, .i32⟩
  | .hbm, ⟨44, _⟩ => ⟨S_, .i32⟩
  | .hbm, ⟨45, _⟩ => ⟨S100352x128, .i32⟩
  | .hbm, ⟨46, _⟩ => ⟨S100352x128, .i32⟩
  | .hbm, ⟨47, _⟩ => ⟨S100352x128, .i32⟩
  | .hbm, ⟨48, _⟩ => ⟨S100352x128, .bf16⟩
  | .hbm, ⟨49, _⟩ => ⟨S_, .i32⟩
  | .hbm, ⟨50, _⟩ => ⟨S100352x128, .i32⟩
  | .hbm, ⟨51, _⟩ => ⟨S100352x128, .i32⟩
  | .hbm, ⟨52, _⟩ => ⟨S_, .i32⟩
  | .hbm, ⟨53, _⟩ => ⟨S100352x128, .i32⟩
  | .hbm, ⟨54, _⟩ => ⟨S100352x128, .i1⟩
  | .hbm, ⟨55, _⟩ => ⟨S100352x128, .i32⟩
  | .hbm, ⟨56, _⟩ => ⟨S_, .i32⟩
  | .hbm, ⟨57, _⟩ => ⟨S100352x128, .i32⟩
  | .hbm, ⟨58, _⟩ => ⟨S100352x128, .i32⟩
  | .hbm, ⟨59, _⟩ => ⟨S100352x128, .i32⟩
  | .hbm, ⟨60, _⟩ => ⟨S100352x128, .bf16⟩
  | .hbm, ⟨61, _⟩ => ⟨S100352x8x16, .bf16⟩
  | .hbm, ⟨62, _⟩ => ⟨S100352x8x1, .bf16⟩
  | .hbm, ⟨63, _⟩ => ⟨S100352x8x16, .bf16⟩
  | .hbm, ⟨64, _⟩ => ⟨S100352x8x16, .bf16⟩
  | .hbm, ⟨65, _⟩ => ⟨S100352x8x16, .bf16⟩
  | .hbm, ⟨66, _⟩ => ⟨S100352x8x1, .bf16⟩
  | .hbm, ⟨67, _⟩ => ⟨S100352x8x16, .bf16⟩
  | .hbm, ⟨68, _⟩ => ⟨S100352x8x16, .bf16⟩
  | .hbm, ⟨69, _⟩ => ⟨S100352x8x16x1, .bf16⟩
  | .hbm, ⟨70, _⟩ => ⟨S100352x8x16x1, .bf16⟩
  | .hbm, ⟨71, _⟩ => ⟨S100352x8x16x2, .bf16⟩
  | .hbm, ⟨72, _⟩ => ⟨S100352x256, .bf16⟩
  | .hbm, ⟨73, _⟩ => ⟨S100352, .i32⟩
  | .hbm, ⟨74, _⟩ => ⟨S1, .i32⟩
  | .hbm, ⟨75, _⟩ => ⟨S_, .i32⟩
  | .hbm, ⟨76, _⟩ => ⟨S100352, .i32⟩
  | .hbm, ⟨77, _⟩ => ⟨S100352, .i1⟩
  | .hbm, ⟨78, _⟩ => ⟨S100352x1, .i1⟩
  | .hbm, ⟨79, _⟩ => ⟨S_, .bf16⟩
  | .hbm, ⟨80, _⟩ => ⟨S100352x256, .i1⟩
  | .hbm, ⟨81, _⟩ => ⟨S100352x256, .bf16⟩
  | .hbm, ⟨82, _⟩ => ⟨S100352x256, .bf16⟩
  | .hbm, ⟨83, _⟩ => ⟨S100352x256, .f32⟩
  | .hbm, ⟨84, _⟩ => ⟨S16x256, .f32⟩
  | .hbm, ⟨85, _⟩ => ⟨S100000x256, .bf16⟩
  | _, _ => ⟨S16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_3 : Ref sig .tc := ⟨.hbm, 37, rfl⟩
abbrev main_v29 : Ref sig .tc := ⟨.hbm, 38, rfl⟩
abbrev main_v30 : Ref sig .tc := ⟨.hbm, 39, rfl⟩
abbrev main_c_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_6 : Ref sig .tc := ⟨.hbm, 49, rfl⟩
abbrev main_v38 : Ref sig .tc := ⟨.hbm, 50, rfl⟩
abbrev main_v39 : Ref sig .tc := ⟨.hbm, 51, rfl⟩
abbrev main_c_7 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst : Ref sig .tc := ⟨.hbm, 79, rfl⟩
abbrev main_call0_v0 : Ref sig .tc := ⟨.hbm, 80, rfl⟩
abbrev main_call0_v1 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== Proof.Kernel.Points.lean ====
/- The schedule of the call: which points write each result back, the staging buffers a point works in, and the
   body as the pipeline calls it there. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

-- window 0: no schedule fact — its index map reads a prefetched table, so where it is fetched or written back depends on the tables' contents
-- window 1: no schedule fact — its index map reads a prefetched table, so where it is fetched or written back depends on the tables' contents
-- window 2: no schedule fact — its index map reads a prefetched table, so where it is fetched or written back depends on the tables' contents
/-- Window 3 (result 0 (%0#0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 0 (by decide) (by decide) (Pipeline.Window.sep_of_coord cc0_transform_3 0 0 (fun _ => rfl) (by decide)) (P := 1) (m := 0) (by decide) rfl t).mpr (Nat.mod_one _) : ∀ t : Fin grid0.N, Pipeline.Window.flushOf grid0 true cc0_transform_3 t = true)
/-- Window 4 (result 1 (%0#1)) is written back at the last point only, at any contents of the tables (its index map reads none). -/
theorem flush0_4 (a : (pcfg0 (F := F)).Adm) : ∀ t : Fin (cfg0 a).N, ((cfg0 a).win 4).flush t = true ↔ t.val % 49 = 48 :=
  (fun t => Pipeline.Window.flushOf_const cc0_transform_4 (fun _ _ => rfl) (n := 49) (by decide) rfl t : ∀ t : Fin grid0.N, Pipeline.Window.flushOf grid0 true cc0_transform_4 t = true ↔ t.val % 49 = 48)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_dequant_pool (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

end Cert.Kernel.Gen

end
-- ==== Proof.Kernel.Frame.lean ====
/- The launch side of the call: @main up to its one region, the arrays' contents there, the prefetched table, each
   input's block at a point, and the claim that the arguments end unchanged, from any run of the pipeline. -/
module

public import proofs.«01_k».proof.Proof.Gen.Kernel.Launch
public import proofs.«01_k».proof.Proof.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S16 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 2).trans (((dats 0 c).arrAt_in 2 rfl _).trans ((hA c 2).trans (V_main_arg3 m c)))⟩) h

end Cert.Kernel.Gen

end
-- ==== Proof.Kernel.Blocks.lean ====
/- Which block of each input a point is handed: the block of the grid point, or past the last distinct row the block of
   the last row, always inside the array, whatever the table says. -/
module

public import proofs.«01_k».proof.Proof.Kernel.Frame
public import Idealize.ShloMosaic.Lib.Affine
public import Idealize.ShloMosaic.Lib.Routing.BitFacts

@[expose] public section

noncomputable section

namespace Cert.Kernel.Clean

open Idealize.ShloMosaic Idealize.ShloMosaic.TcCoe
open Cert.Kernel Cert.Kernel.Gen

variable {F : FTy → Type} [FloatOps F]

/-- The block of the last of `v` rows: `(v - 1) / 2048` rounded down, and 0 if that is negative. -/
def lastBlock (v : BitVec 32) : BitVec 32 :=
  Scalar.maxsi (Scalar.select (Scalar.andi
      (Scalar.cmpi .ne (Scalar.subi (Scalar.extui (Scalar.cmpi .sgt (Scalar.subi v 1#32) 0#32)) (Scalar.extui (Scalar.cmpi .slt (Scalar.subi v 1#32) 0#32)))
        (Scalar.subi (Scalar.extui (Scalar.cmpi .sgt 2048#32 0#32)) (Scalar.extui (Scalar.cmpi .slt 2048#32 0#32))))
      (Scalar.cmpi .ne (Scalar.remsi (Scalar.subi v 1#32) 2048#32) 0#32))
    (Scalar.subi (Scalar.divsi (Scalar.subi v 1#32) 2048#32) 1#32) (Scalar.divsi (Scalar.subi v 1#32) 2048#32)) 0#32

/-- The block handed to the point of word `i`. -/
def blockAt (v i : BitVec 32) : BitVec 32 := Scalar.minsi i (lastBlock v)

/-- The count of distinct rows, as the tables hold it. -/
def count (pf : pre0.Contents (Elt F)) : BitVec 32 := pf.at 0 (Rect.unit (s := S16) ![0] S1.size inb_S16_S1_0) numel1_S1

theorem transform_0 (pf : pre0.Contents (Elt F)) (i : grid0.Coords) :
    cc0_transform_0 inb_S16_S1_0 numel1_S1 pf i = ![(blockAt (count pf) (BitVec.ofNat 32 (i 0).val)).toNat, 0] := rfl
theorem transform_1 (pf : pre0.Contents (Elt F)) (i : grid0.Coords) :
    cc0_transform_1 inb_S16_S1_0 numel1_S1 pf i = ![(blockAt (count pf) (BitVec.ofNat 32 (i 0).val)).toNat, 0] := rfl
theorem transform_2 (pf : pre0.Contents (Elt F)) (i : grid0.Coords) :
    cc0_transform_2 inb_S16_S1_0 numel1_S1 pf i = ![0, (blockAt (count pf) (BitVec.ofNat 32 (i 0).val)).toNat, 0, 0] := rfl

theorem lastBlock_nonneg (v : BitVec 32) : 0 ≤ (lastBlock v).toInt := by
  unfold lastBlock
  show 0 ≤ (IntOp.maxsi _ 0#32).toInt
  unfold IntOp.maxsi
  split
  · rename_i h
    rw [BitVec.slt_iff_toInt_lt] at h
    have : (0#32).toInt = 0 := by decide
    omega
  · decide

theorem blockAt_le (v : BitVec 32) (n : Nat) (hn : n < 49) : (blockAt v (BitVec.ofNat 32 n)).toNat < 49 := by
  have h0 := lastBlock_nonneg v
  unfold blockAt
  show (IntOp.minsi _ _).toNat < 49
  have hn' : (BitVec.ofNat 32 n).toNat = n := by rw [BitVec.toNat_ofNat]; omega
  have hi : (BitVec.ofNat 32 n).toInt = n := by rw [BitVec.toInt_eq_toNat_of_lt (by omega), hn']
  unfold IntOp.minsi
  split
  · omega
  · rename_i h
    rw [BitVec.slt_iff_toInt_lt] at h
    have hl := BitVec.toInt_eq_toNat_cond (lastBlock v)
    have := (lastBlock v).isLt
    split at hl <;> omega

theorem blockAt_coords (v : BitVec 32) (i : grid0.Coords) : (blockAt v (BitVec.ofNat 32 (i 0).val)).toNat < 49 :=
  blockAt_le v _ (i 0).isLt

/-- Every window's block lies in its array at every point, whatever the tables hold. -/
theorem ok0_all (pf : pre0.Contents (Elt F)) : ok0 pf := by
  unfold ok0
  refine ⟨fun i => ⟨fun a => ?_, .inl rfl⟩, fun i => ⟨fun a => ?_, .inl rfl⟩, fun i => ⟨fun a => ?_, .inl rfl⟩⟩
  · rw [transform_0]
    have h := blockAt_coords (count pf) i
    match a with
    | ⟨0, _⟩ => show ((blockAt (count pf) (BitVec.ofNat 32 (i 0).val)).toNat + 1) * 512 ≤ 25088; omega
    | ⟨1, _⟩ => show (0 + 1) * 128 ≤ 128; omega
  · rw [transform_1]
    have h := blockAt_coords (count pf) i
    match a with
    | ⟨0, _⟩ => show ((blockAt (count pf) (BitVec.ofNat 32 (i 0).val)).toNat + 1) * 64 ≤ 3136; omega
    | ⟨1, _⟩ => show (0 + 1) * 128 ≤ 128; omega
  · rw [transform_2]
    have h := blockAt_coords (count pf) i
    match a with
    | ⟨0, _⟩ => show (0 + 1) * 2 ≤ 2; omega
    | ⟨1, _⟩ => show ((blockAt (count pf) (BitVec.ofNat 32 (i 0).val)).toNat + 1) * 16 ≤ 784; omega
    | ⟨2, _⟩ => show (0 + 1) * 8 ≤ 8; omega
    | ⟨3, _⟩ => show (0 + 1) * 128 ≤ 128; omega

/-- Of positive counts the last block is the count of full blocks before the last row. -/
theorem lastBlock_pos (v : BitVec 32) (h : 0 < v.toInt) : lastBlock v = BitVec.ofNat 32 ((v.toNat - 1) / 2048) := by
  have hv : v.toNat < 2147483648 ∧ 0 < v.toNat := by
    have h1 := BitVec.toInt_eq_toNat_cond v
    have h2 := v.isLt
    split at h1 <;> omega
  obtain ⟨n, hn, rfl⟩ : ∃ n, n < 2147483647 ∧ v = BitVec.ofNat 32 (n + 1) :=
    ⟨v.toNat - 1, by omega, BitVec.eq_of_toNat_eq (by rw [BitVec.toNat_ofNat, Nat.mod_eq_of_lt (by omega)]; omega)⟩
  have e0 : (BitVec.ofNat 32 (n + 1)).toNat - 1 = n := by rw [BitVec.toNat_ofNat]; omega
  have e1 : Scalar.subi (BitVec.ofNat 32 (n + 1)) 1#32 = BitVec.ofNat 32 n := by
    show BitVec.ofNat 32 (n + 1) - BitVec.ofNat 32 1 = _
    rw [Routing.ofNat32_sub (by omega)]; rfl
  have e2 : Scalar.divsi (BitVec.ofNat 32 n) 2048#32 = BitVec.ofNat 32 (n / 2048) := by
    show IntOp.divsi .scalar _ _ = _
    unfold IntOp.divsi
    rw [if_neg (IntOp.not_corner_of_pos (by decide))]
    exact Routing.sdiv_ofNat32 (by omega) (by omega)
  have hI : ∀ k : Nat, k < 2147483648 → (BitVec.ofNat 32 k).toInt = k := fun k hk => by
    rw [BitVec.toInt_eq_toNat_of_lt (by rw [BitVec.toNat_ofNat]; omega), BitVec.toNat_ofNat]; omega
  unfold lastBlock
  rw [e0, e1, e2]
  have hsel : Scalar.andi
      (Scalar.cmpi .ne (Scalar.subi (Scalar.extui (Scalar.cmpi .sgt (BitVec.ofNat 32 n) 0#32)) (Scalar.extui (Scalar.cmpi .slt (BitVec.ofNat 32 n) 0#32)))
        (Scalar.subi (Scalar.extui (Scalar.cmpi .sgt 2048#32 0#32)) (Scalar.extui (Scalar.cmpi .slt 2048#32 0#32))))
      (Scalar.cmpi .ne (Scalar.remsi (BitVec.ofNat 32 n) 2048#32) 0#32) ≠ (1 : BitVec 1) := by
    rcases Nat.eq_zero_or_pos n with rfl | hp
    · decide
    · have h1 : Scalar.cmpi .sgt (BitVec.ofNat 32 n) 0#32 = 1#1 := IntOp.cmpi_sgt.mpr (by rw [hI n (by omega)]; show (0 : Int) < n; omega)
      have h2 : Scalar.cmpi .slt (BitVec.ofNat 32 n) 0#32 = 0#1 := by
        have : ¬ Scalar.cmpi .slt (BitVec.ofNat 32 n) 0#32 = 1#1 := fun hh => by
          have := IntOp.cmpi_slt.mp hh
          rw [hI n (by omega)] at this
          have h0 : (0#32).toInt = 0 := by decide
          omega
        revert this; generalize Scalar.cmpi .slt (BitVec.ofNat 32 n) 0#32 = b; revert b; decide
      rw [h1, h2]
      intro hh
      have := (IntOp.andi_eq_one.mp hh).1
      revert this; decide
  unfold Scalar.select
  rw [if_neg hsel]
  show IntOp.maxsi _ _ = _
  unfold IntOp.maxsi
  split
  · rfl
  · rename_i hs
    rw [BitVec.slt_iff_toInt_lt, hI (n / 2048) (by omega)] at hs
    have h0 : (0#32).toInt = 0 := by decide
    have : n / 2048 = 0 := by omega
    rw [this]

/-- A point before the last row's end is handed its own block. -/
theorem blockAt_live (v : BitVec 32) (n : Nat) (hn : n < 49) (h : (2048 * n : Int) < v.toInt) : (blockAt v (BitVec.ofNat 32 n)).toNat = n := by
  have hv : (2048 * n : Int) < v.toNat ∧ v.toNat < 2147483648 := by
    have h1 := BitVec.toInt_eq_toNat_cond v
    have h2 := v.isLt
    split at h1 <;> omega
  have hI : ∀ k : Nat, k < 2147483648 → (BitVec.ofNat 32 k).toInt = k := fun k hk => by
    rw [BitVec.toInt_eq_toNat_of_lt (by rw [BitVec.toNat_ofNat]; omega), BitVec.toNat_ofNat]; omega
  unfold blockAt
  rw [lastBlock_pos v (by omega)]
  show (IntOp.minsi _ _).toNat = n
  unfold IntOp.minsi
  split
  · rw [BitVec.toNat_ofNat]; omega
  · rename_i hs
    rw [BitVec.slt_iff_toInt_lt, hI n (by omega), hI ((v.toNat - 1) / 2048) (by omega)] at hs
    rw [BitVec.toNat_ofNat]; omega

theorem coords0 (t : Fin grid0.N) : (grid0.coords t 0).val = t.val := by
  rw [Pipeline.Grid.coords_val t 0 (S := 1) (B := 49) (by decide) (by decide)]
  have := t.isLt
  have h : grid0.N = 49 := N_0
  omega

end Cert.Kernel.Clean

end
-- ==== Proof.Kernel.Body.lean ====
/- The kernel body of the decoding and pooling call, written over its own block structure: a point of the grid works
   on 2048 slots, eight steps of 256 slots each, a step in eight quarters of 32 slots.  The printed body is this
   program, by definitional unfolding. -/
module

public import proofs.«01_k».proof.Proof.Gen.Kernel.Skeleton

@[expose] public section

noncomputable section

namespace Cert.Kernel.Clean

open Idealize.ShloMosaic Idealize.SL.Sem Cert.Kernel Cert.Kernel.Gen

variable {F : FTy → Type} [FloatOps F]

/-! ## The values -/

/-- The lane number. -/
def lane : IVec S8x128 32 := iota .tc S8x128 32 [1] iota_S8x128_d1_w32

/-- The scale words of step `t`, those of slots past the last zeroed, read as bf16: rows 0–7 are the scales of the
    step's first 128 slots, rows 8–15 those of its last. -/
def scalesOf (left : BitVec 32) (t : Nat) (z : Vec F S8x128 .i32) : FVec F S16x128 .bf16 :=
  bitcastToFloat .bf16 (bitcast S16x128 16
    (select (cmpi .slt
        (addi (addi (broadcast S8x128 (BitVec.ofNat 32 (256 * t)))
          (muli (shrsi (iota .tc S8x128 32 [0] iota_S8x128_d0_w32) (broadcast S8x128 2#32)) (broadcast S8x128 128#32))) lane)
        (broadcast S8x128 left)) z (broadcast S8x128 0#32) : Vec F S8x128 .i32)
    bitcasts_S8x128_w32_S16x128_w16)

theorem slices_h (h : Fin 2) : S16x128.Slices ![8 * h.val, 0] S8x128 := by revert h; decide

/-- The scales of 128 slots spread over the 256 columns. -/
def spread (h : Fin 2) (zb : FVec F S16x128 .bf16) : FVec F S128x256 .bf16 :=
  truncf .bf16 (matmul dot_S8x128_S8x256_S128x256_0_0_1_1_n_n none
    (extractStridedSlice S8x128 ![8 * h.val, 0] zb (slices_h h)) (k0_pay6 (F := F))
    (constant S128x256 .f32 0x00000000#32)) bitsLt_bf16_f32

theorem slices_c (c : Fin 4) (hf : Fin 2) : S128x256.Slices ![32 * c.val, 128 * hf.val] S32x128 := by
  revert c hf; decide

/-- Half `hf` of the columns of 32 decoded rows. -/
def half (hf : Fin 2) (c : Fin 4) (sc : FVec F S128x256 .bf16) (w : Vec F S8x128 .i32) : FVec F S32x128 .bf16 :=
  have j : IVec S8x128 32 := addi (broadcast S8x128 (BitVec.ofNat 32 (64 * hf.val))) (shrsi lane (broadcast S8x128 1#32))
  have j' : IVec S8x128 32 := select (cmpi .slt j (broadcast S8x128 0#32)) (addi j (broadcast S8x128 128#32)) j
  have x : IVec S8x128 32 := dynamicGather 1 w (shapeCast S8x128 (shapeCast S8x128x1 j' shapeCasts_S8x128_S8x128x1) shapeCasts_S8x128x1_S8x128)
  have y : IVec S8x128 32 := andi (shli x k0_pay5) (broadcast S8x128 4042322160#32)
  mulf (mulf (sitofp .bf16 (bitcast S32x128 8 y bitcasts_S8x128_w32_S32x128_w8))
      (broadcast S32x128 (Scalar.ofBits .bf16 0x3D80#16)))
    (extractStridedSlice S32x128 ![32 * c.val, 128 * hf.val] sc (slices_c c hf))

/-- 32 decoded rows. -/
def rows32 (c : Fin 4) (sc : FVec F S128x256 .bf16) (w : Vec F S8x128 .i32) : FVec F S32x256 .bf16 :=
  concatenate S32x256 1 [⟨S32x128, half 0 c sc w⟩, ⟨S32x128, half 1 c sc w⟩] concatenates_S32x128_S32x128_S32x256_d1

/-- The counts of 128 slots, those of slots past the last zeroed: low bytes above, the rest below. -/
def counts (left : BitVec 32) (j : Nat) (b : Vec F S2x1x8x128 .i32) : IVec S32x128 32 :=
  have n : IVec S16x128 32 := select (cmpi .slt
      (addi (broadcast S16x128 (BitVec.ofNat 32 (128 * j))) (iota .tc S16x128 32 [1] iota_S16x128_d1_w32))
      (broadcast S16x128 left))
    (shapeCast S16x128 (shapeCast S2x8x128 (b : IVec S2x1x8x128 32) shapeCasts_S2x1x8x128_S2x8x128) shapeCasts_S2x8x128_S16x128)
    (broadcast S16x128 0#32)
  concatenate S32x128 0 [⟨S16x128, andi n (broadcast S16x128 255#32)⟩, ⟨S16x128, shrsi n (broadcast S16x128 8#32)⟩]
    concatenates_S16x128_S16x128_S32x128_d0

/-- The 256 decoded rows of a step. -/
def rows256 (r0 r1 r2 r3 r4 r5 r6 r7 : FVec F S32x256 .bf16) : FVec F S256x256 .bf16 :=
  concatenate S256x256 0 [⟨S32x256, r0⟩, ⟨S32x256, r1⟩, ⟨S32x256, r2⟩, ⟨S32x256, r3⟩, ⟨S32x256, r4⟩, ⟨S32x256, r5⟩, ⟨S32x256, r6⟩, ⟨S32x256, r7⟩]
    concatenates_S32x256_S32x256_S32x256_S32x256_S32x256_S32x256_S32x256_S32x256_S256x256_d0

/-- A step's sums, onto those of the steps before. -/
def sums (acc : FVec F S32x256 .f32) (n0 n1 : IVec S32x128 32) (r : FVec F S256x256 .bf16) : FVec F S32x256 .f32 :=
  addf acc (matmul dot_S32x256_S256x256_S32x256_1_0_0_1_n_n none
    (truncf .bf16 (sitofp .f32 (concatenate S32x256 1 [⟨S32x128, n0⟩, ⟨S32x128, n1⟩] concatenates_S32x128_S32x128_S32x256_d1)) bitsLt_bf16_f32)
    r (constant S32x256 .f32 0x00000000#32))

/-! ## The program -/

theorem inb_q (n : Fin 64) : ∀ a, (![8 * n.val, 0] : Fin 2 → Nat) a + S8x128.size a ≤ S512x128.size a := by revert n; decide
theorem inb_r (n : Fin 64) : ∀ a, (![32 * n.val, 0] : Fin 2 → Nat) a + S32x256.size a ≤ S2048x256.size a := by revert n; decide
theorem packed_r (n : Fin 64) : (Rect.unit (s := S2048x256) ![32 * n.val, 0] S32x256.size (inb_r n)).PackedRows (EltTy.packing .bf16) := by
  revert n; decide
theorem inb_z (t : Fin 8) : ∀ a, (![8 * t.val, 0] : Fin 2 → Nat) a + S8x128.size a ≤ S64x128.size a := by revert t; decide
theorem inb_b (j : Fin 16) : ∀ a, (![0, j.val, 0, 0] : Fin 4 → Nat) a + S2x1x8x128.size a ≤ S2x16x8x128.size a := by revert j; decide

variable (arg2 : Memref sig .tc .vmem S512x128 .i32) (arg3 : Memref sig .tc .vmem S64x128 .i32)
  (arg4 : Memref sig .tc .vmem S2x16x8x128 .i32) (arg5 : Memref sig .tc .vmem S2048x256 .bf16) (harg5 : arg5.IsWhole)
  (arg6 : Memref sig .tc .vmem S16x256 .f32)

/-- Quarter `n` of the block: 32 rows decoded and stored. -/
def quarter (n : Fin 64) (c : Fin 4) (sc : FVec F S128x256 .bf16) :
    Prog (TpuEff nD τ sig (Elt F) Λ₀ .tc) (FVec F S32x256 .bf16) := do
  let w : Vec F S8x128 .i32 ← Prog.lift (.load arg2 (Rect.unit (s := S512x128) ![8 * n.val, 0] S8x128.size (inb_q n)).toLoadRect (View.loadsAt_vmem h_S8x128))
  let _v : Vec F S32x256 .bf16 ← Prog.lift (.load arg5 (Rect.unit (s := S2048x256) ![32 * n.val, 0] S32x256.size (inb_r n)).toLoadRect (View.loadsAt_vmem h_S32x256))
  Prog.lift (.store arg5 (Rect.unit (s := S2048x256) ![32 * n.val, 0] S32x256.size (inb_r n)) (rows32 c sc w) Finset.univ (View.stores_vmem h_S32x256 (harg5.storeExact_slice rfl _ (packed_r n)) (fun _ => rfl)) (.inl rfl))
  pure (rows32 c sc w)

/-- Step `t`: 256 rows decoded and stored, and their share of the pooled sums. -/
def step (left : BitVec 32) (t : Fin 8) (acc : FVec F S32x256 .f32) :
    Prog (TpuEff nD τ sig (Elt F) Λ₀ .tc) (FVec F S32x256 .f32) := do
  let z : Vec F S8x128 .i32 ← Prog.lift (.load arg3 (Rect.unit (s := S64x128) ![8 * t.val, 0] S8x128.size (inb_z t)).toLoadRect (View.loadsAt_vmem h_S8x128))
  let r0 ← quarter arg2 arg5 harg5 ⟨8 * t.val, by omega⟩ 0 (spread 0 (scalesOf left t.val z))
  let r1 ← quarter arg2 arg5 harg5 ⟨8 * t.val + 1, by omega⟩ 1 (spread 0 (scalesOf left t.val z))
  let r2 ← quarter arg2 arg5 harg5 ⟨8 * t.val + 2, by omega⟩ 2 (spread 0 (scalesOf left t.val z))
  let r3 ← quarter arg2 arg5 harg5 ⟨8 * t.val + 3, by omega⟩ 3 (spread 0 (scalesOf left t.val z))
  let b0 : Vec F S2x1x8x128 .i32 ← Prog.lift (.load arg4 (Rect.unit (s := S2x16x8x128) ![0, 2 * t.val, 0, 0] S2x1x8x128.size (inb_b ⟨2 * t.val, by omega⟩)).toLoadRect (View.loadsAt_vmem h_S2x1x8x128))
  let r4 ← quarter arg2 arg5 harg5 ⟨8 * t.val + 4, by omega⟩ 0 (spread 1 (scalesOf left t.val z))
  let r5 ← quarter arg2 arg5 harg5 ⟨8 * t.val + 5, by omega⟩ 1 (spread 1 (scalesOf left t.val z))
  let r6 ← quarter arg2 arg5 harg5 ⟨8 * t.val + 6, by omega⟩ 2 (spread 1 (scalesOf left t.val z))
  let r7 ← quarter arg2 arg5 harg5 ⟨8 * t.val + 7, by omega⟩ 3 (spread 1 (scalesOf left t.val z))
  let b1 : Vec F S2x1x8x128 .i32 ← Prog.lift (.load arg4 (Rect.unit (s := S2x16x8x128) ![0, 2 * t.val + 1, 0, 0] S2x1x8x128.size (inb_b ⟨2 * t.val + 1, by omega⟩)).toLoadRect (View.loadsAt_vmem h_S2x1x8x128))
  pure (sums acc (counts (F := F) left (2 * t.val) b0) (counts (F := F) left (2 * t.val + 1) b1) (rows256 r0 r1 r2 r3 r4 r5 r6 r7))

/-- The live branch up to its sums. -/
def steps (left : BitVec 32) : Prog (TpuEff nD τ sig (Elt F) Λ₀ .tc) (FVec F S32x256 .f32) := do
  let acc ← step arg2 arg3 arg4 arg5 harg5 left 0 (k0_pay7 (F := F))
  let acc ← step arg2 arg3 arg4 arg5 harg5 left 1 acc
  let acc ← step arg2 arg3 arg4 arg5 harg5 left 2 acc
  let acc ← step arg2 arg3 arg4 arg5 harg5 left 3 acc
  let acc ← step arg2 arg3 arg4 arg5 harg5 left 4 acc
  let acc ← step arg2 arg3 arg4 arg5 harg5 left 5 acc
  let acc ← step arg2 arg3 arg4 arg5 harg5 left 6 acc
  step arg2 arg3 arg4 arg5 harg5 left 7 acc

/-- What the sums of a block add to the pooled sums: the low bytes' sums and 256 times the others'. -/
def fold (acc : FVec F S32x256 .f32) (pool : Vec F S16x256 .f32) : FVec F S16x256 .f32 :=
  addf (shapeCast S16x256 (pool : FVec F S16x256 .f32) shapeCasts_S16x256_S16x256) (addf (extractStridedSlice S16x256 ![0, 0] acc slices_S32x256_o0_0_S16x256)
    (mulf (broadcast S16x256 (Scalar.ofBits .f32 0x43800000#32)) (extractStridedSlice S16x256 ![16, 0] acc slices_S32x256_o16_0_S16x256)))

/-- At the grid's first point the pooled sums are zeroed. -/
def zeroPool (i : grid0.Coords) : Prog (TpuEff nD τ sig (Elt F) Λ₀ .tc) PUnit :=
  if k0_h1 : k0_cond1 i = 1#1 then do
    let _v : Vec F S16x256 .f32 ← Prog.lift (.load arg6 (Rect.unit (s := S16x256) ![0, 0] S16x256.size inb_S16x256_S16x256_0_0).toLoadRect (View.loadsAt_vmem h_S16x256))
    Prog.lift (.store arg6 (Rect.unit (s := S16x256) ![0, 0] S16x256.size inb_S16x256_S16x256_0_0) (k0_pay1 (F := F)) Finset.univ (View.stores_vmem_bits_univ h_S16x256 rfl) (.inl rfl))
    pure ⟨⟩
  else do
    pure ⟨⟩

/-- At a point past the last row the block's rows are zeroed. -/
def zeroRows (i : grid0.Coords) (v0 : BitVec 32) : Prog (TpuEff nD τ sig (Elt F) Λ₀ .tc) PUnit :=
  if k0_h2 : k0_cond2 i v0 = 1#1 then do
    let _v : Vec F S2048x256 .bf16 ← Prog.lift (.load arg5 (Rect.unit (s := S2048x256) ![0, 0] S2048x256.size inb_S2048x256_S2048x256_0_0).toLoadRect (View.loadsAt_vmem h_S2048x256))
    Prog.lift (.store arg5 (Rect.unit (s := S2048x256) ![0, 0] S2048x256.size inb_S2048x256_S2048x256_0_0) (k0_pay2 (F := F)) Finset.univ (View.stores_vmem h_S2048x256 (harg5.storeExact_slice rfl _ packedbf16_S2048x256_S2048x256_0_0) (fun _ => rfl)) (.inl rfl))
    pure ⟨⟩
  else do
    pure ⟨⟩

/-- When the block is not full, the rows of the slots past the last are zeroed. -/
def trimRows (i : grid0.Coords) (v0 : BitVec 32) : Prog (TpuEff nD τ sig (Elt F) Λ₀ .tc) PUnit :=
  if k0_h4 : k0_cond4 i v0 = 1#1 then do
    let r : Vec F S2048x256 .bf16 ← Prog.lift (.load arg5 (Rect.unit (s := S2048x256) ![0, 0] S2048x256.size inb_S2048x256_S2048x256_0_0).toLoadRect (View.loadsAt_vmem h_S2048x256))
    let _v : Vec F S2048x256 .bf16 ← Prog.lift (.load arg5 (Rect.unit (s := S2048x256) ![0, 0] S2048x256.size inb_S2048x256_S2048x256_0_0).toLoadRect (View.loadsAt_vmem h_S2048x256))
    Prog.lift (.store arg5 (Rect.unit (s := S2048x256) ![0, 0] S2048x256.size inb_S2048x256_S2048x256_0_0) (k0_pay4 (Scalar.subi v0 (Scalar.muli (BitVec.ofNat 32 (i 0).val) 2048#32)) r) Finset.univ (View.stores_vmem h_S2048x256 (harg5.storeExact_slice rfl _ packedbf16_S2048x256_S2048x256_0_0) (fun _ => rfl)) (.inl rfl))
    pure ⟨⟩
  else do
    pure ⟨⟩

/-- What a live point does: its eight steps, the pooled sums, and the rows of the slots past the last. -/
def live (i : grid0.Coords) (v0 : BitVec 32) : Prog (TpuEff nD τ sig (Elt F) Λ₀ .tc) PUnit := do
  let acc ← steps arg2 arg3 arg4 arg5 harg5 (Scalar.subi v0 (Scalar.muli (BitVec.ofNat 32 (i 0).val) 2048#32))
  let p : Vec F S16x256 .f32 ← Prog.lift (.load arg6 (Rect.unit (s := S16x256) ![0, 0] S16x256.size inb_S16x256_S16x256_0_0).toLoadRect (View.loadsAt_vmem h_S16x256))
  let _v : Vec F S16x256 .f32 ← Prog.lift (.load arg6 (Rect.unit (s := S16x256) ![0, 0] S16x256.size inb_S16x256_S16x256_0_0).toLoadRect (View.loadsAt_vmem h_S16x256))
  Prog.lift (.store arg6 (Rect.unit (s := S16x256) ![0, 0] S16x256.size inb_S16x256_S16x256_0_0) (fold acc p) Finset.univ (View.stores_vmem_bits_univ h_S16x256 rfl) (.inl rfl))
  trimRows arg5 harg5 i v0

/-- The whole body. -/
def body (i : grid0.Coords) (arg1 : Memref sig .tc .smem S16 .i32) : Prog (TpuEff nD τ sig (Elt F) Λ₀ .tc) PUnit := do
  let v0 : Elt F .i32 ← smemLoad arg1 (Rect.unit (s := S16) ![0] S1.size inb_S16_S1_0) numel1_S1 rfl
  zeroPool arg6 i
  zeroRows arg5 harg5 i v0
  if k0_h3 : k0_cond3 i v0 = 1#1 then do
    live arg2 arg3 arg4 arg5 harg5 arg6 i v0
  else do
    pure ⟨⟩

/-- The whole body, its conditionals written out. -/
def bodyFlat (i : grid0.Coords) (arg1 : Memref sig .tc .smem S16 .i32) : Prog (TpuEff nD τ sig (Elt F) Λ₀ .tc) PUnit := do
  let v0 : Elt F .i32 ← smemLoad arg1 (Rect.unit (s := S16) ![0] S1.size inb_S16_S1_0) numel1_S1 rfl
  if k0_h1 : k0_cond1 i = 1#1 then do
    let _v : Vec F S16x256 .f32 ← Prog.lift (.load arg6 (Rect.unit (s := S16x256) ![0, 0] S16x256.size inb_S16x256_S16x256_0_0).toLoadRect (View.loadsAt_vmem h_S16x256))
    Prog.lift (.store arg6 (Rect.unit (s := S16x256) ![0, 0] S16x256.size inb_S16x256_S16x256_0_0) (k0_pay1 (F := F)) Finset.univ (View.stores_vmem_bits_univ h_S16x256 rfl) (.inl rfl))
    pure ⟨⟩
  else do
    pure ⟨⟩
  if k0_h2 : k0_cond2 i v0 = 1#1 then do
    let _v : Vec F S2048x256 .bf16 ← Prog.lift (.load arg5 (Rect.unit (s := S2048x256) ![0, 0] S2048x256.size inb_S2048x256_S2048x256_0_0).toLoadRect (View.loadsAt_vmem h_S2048x256))
    Prog.lift (.store arg5 (Rect.unit (s := S2048x256) ![0, 0] S2048x256.size inb_S2048x256_S2048x256_0_0) (k0_pay2 (F := F)) Finset.univ (View.stores_vmem h_S2048x256 (harg5.storeExact_slice rfl _ packedbf16_S2048x256_S2048x256_0_0) (fun _ => rfl)) (.inl rfl))
    pure ⟨⟩
  else do
    pure ⟨⟩
  if k0_h3 : k0_cond3 i v0 = 1#1 then do
    live arg2 arg3 arg4 arg5 harg5 arg6 i v0
  else do
    pure ⟨⟩

theorem bodyFlat_eq (i : grid0.Coords) (arg1 : Memref sig .tc .smem S16 .i32) :
    bodyFlat (F := F) arg2 arg3 arg4 arg5 harg5 arg6 i arg1 = body arg2 arg3 arg4 arg5 harg5 arg6 i arg1 := by
  unfold bodyFlat body
  congr 1
  funext v0
  unfold zeroPool zeroRows
  by_cases h1 : k0_cond1 i = 1#1
  · rw [dif_pos h1, dif_pos h1]
    by_cases h2 : k0_cond2 i v0 = 1#1
    · rw [dif_pos h2, dif_pos h2]; rfl
    · rw [dif_neg h2, dif_neg h2]; rfl
  · rw [dif_neg h1, dif_neg h1]
    by_cases h2 : k0_cond2 i v0 = 1#1
    · rw [dif_pos h2, dif_pos h2]; rfl
    · rw [dif_neg h2, dif_neg h2]; rfl

end Cert.Kernel.Clean

end
-- ==== Proof.Kernel.BodyEq.lean ====
/- The printed body is the body written over its own block structure (Body.lean). -/
module

public import proofs.«01_k».proof.Proof.Kernel.Body

@[expose] public section

noncomputable section

namespace Cert.Kernel.Clean

open Idealize.ShloMosaic Idealize.SL.Sem Cert.Kernel Cert.Kernel.Gen

variable {F : FTy → Type} [FloatOps F]

set_option maxRecDepth 65536 in
set_option maxHeartbeats 0 in
/-- The printed body is `bodyFlat`, by unfolding, -/
theorem body_eq_flat (i : grid0.Coords) (arg1 : Memref sig .tc .smem S16 .i32) (harg1 : arg1.IsWhole)
    (arg2 : Memref sig .tc .vmem S512x128 .i32) (harg2 : arg2.IsWhole)
    (arg3 : Memref sig .tc .vmem S64x128 .i32) (harg3 : arg3.IsWhole)
    (arg4 : Memref sig .tc .vmem S2x16x8x128 .i32) (harg4 : arg4.IsWhole)
    (arg5 : Memref sig .tc .vmem S2048x256 .bf16) (harg5 : arg5.IsWhole)
    (arg6 : Memref sig .tc .vmem S16x256 .f32) (harg6 : arg6.IsWhole) :
    cc0_dequant_pool (F := F) i arg1 harg1 arg2 harg2 arg3 harg3 arg4 harg4 arg5 harg5 arg6 harg6
      = bodyFlat arg2 arg3 arg4 arg5 harg5 arg6 i arg1 := rfl

/-- and so `body`. -/
theorem body_eq (i : grid0.Coords) (arg1 : Memref sig .tc .smem S16 .i32) (harg1 : arg1.IsWhole)
    (arg2 : Memref sig .tc .vmem S512x128 .i32) (harg2 : arg2.IsWhole)
    (arg3 : Memref sig .tc .vmem S64x128 .i32) (harg3 : arg3.IsWhole)
    (arg4 : Memref sig .tc .vmem S2x16x8x128 .i32) (harg4 : arg4.IsWhole)
    (arg5 : Memref sig .tc .vmem S2048x256 .bf16) (harg5 : arg5.IsWhole)
    (arg6 : Memref sig .tc .vmem S16x256 .f32) (harg6 : arg6.IsWhole) :
    cc0_dequant_pool (F := F) i arg1 harg1 arg2 harg2 arg3 harg3 arg4 harg4 arg5 harg5 arg6 harg6
      = body arg2 arg3 arg4 arg5 harg5 arg6 i arg1 :=
  (body_eq_flat i arg1 harg1 arg2 harg2 arg3 harg3 arg4 harg4 arg5 harg5 arg6 harg6).trans (bodyFlat_eq arg2 arg3 arg4 arg5 harg5 arg6 i arg1)

end Cert.Kernel.Clean

end
-- ==== Proof.Kernel.Run.lean ====
/- The body of the decoding and pooling call, run: what a quarter, a step and a whole point leave in the two results'
   staging buffers, from the blocks of the three inputs and the count of distinct rows. -/
module

public import proofs.«01_k».proof.Proof.Kernel.Body
public import proofs.«01_k».proof.Proof.Kernel.Frame
public import Idealize.ShloMosaic.Lib.Pipeline.Value

@[expose] public section

noncomputable section

namespace Cert.Kernel.Clean

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-! ## The values a point leaves, from its blocks -/

/-- The codes of quarter `n`. -/
def codesOf (W : Vec F S512x128 .i32) (n : Fin 64) : Vec F S8x128 .i32 :=
  View.ld W (Rect.unit (s := S512x128) ![8 * n.val, 0] S8x128.size (inb_q n))
/-- The scale words of step `t`. -/
def zOf (Z : Vec F S64x128 .i32) (t : Fin 8) : Vec F S8x128 .i32 :=
  View.ld Z (Rect.unit (s := S64x128) ![8 * t.val, 0] S8x128.size (inb_z t))
/-- The counts of 128 slots. -/
def bagOf (B : Vec F S2x16x8x128 .i32) (j : Fin 16) : Vec F S2x1x8x128 .i32 :=
  View.ld B (Rect.unit (s := S2x16x8x128) ![0, j.val, 0, 0] S2x1x8x128.size (inb_b j))

/-- The rows of quarter `4 * (2 * t + h) + c`. -/
def quarterRows (left : BitVec 32) (W : Vec F S512x128 .i32) (Z : Vec F S64x128 .i32) (n : Fin 64) : FVec F S32x256 .bf16 :=
  rows32 ⟨n.val % 4, by omega⟩ (spread ⟨n.val / 4 % 2, by omega⟩ (scalesOf left (n.val / 8) (zOf Z ⟨n.val / 8, by omega⟩))) (codesOf W n)

/-- All rows of a block, before the slots past the last are zeroed. -/
def rowsAll (left : BitVec 32) (W : Vec F S512x128 .i32) (Z : Vec F S64x128 .i32) : Vec F S2048x256 .bf16 := fun y =>
  quarterRows left W Z ⟨(y 0).val / 32, by have h : (y 0).val < 2048 := (y 0).isLt; omega⟩
    (fun a => match a with
      | ⟨0, _⟩ => ⟨(y 0).val % 32, by show _ < 32; omega⟩
      | ⟨1, _⟩ => y 1)

/-- What step `t` adds to the sums. -/
def stepSums (left : BitVec 32) (W : Vec F S512x128 .i32) (Z : Vec F S64x128 .i32) (B : Vec F S2x16x8x128 .i32) (t : Fin 8)
    (acc : FVec F S32x256 .f32) : FVec F S32x256 .f32 :=
  sums acc (counts (F := F) left (2 * t.val) (bagOf B ⟨2 * t.val, by omega⟩))
    (counts (F := F) left (2 * t.val + 1) (bagOf B ⟨2 * t.val + 1, by omega⟩))
    (rows256 (quarterRows left W Z ⟨8 * t.val, by omega⟩) (quarterRows left W Z ⟨8 * t.val + 1, by omega⟩)
      (quarterRows left W Z ⟨8 * t.val + 2, by omega⟩) (quarterRows left W Z ⟨8 * t.val + 3, by omega⟩)
      (quarterRows left W Z ⟨8 * t.val + 4, by omega⟩) (quarterRows left W Z ⟨8 * t.val + 5, by omega⟩)
      (quarterRows left W Z ⟨8 * t.val + 6, by omega⟩) (quarterRows left W Z ⟨8 * t.val + 7, by omega⟩))

/-- The sums after all eight steps. -/
def sumsAll (left : BitVec 32) (W : Vec F S512x128 .i32) (Z : Vec F S64x128 .i32) (B : Vec F S2x16x8x128 .i32) : FVec F S32x256 .f32 :=
  stepSums left W Z B 7 (stepSums left W Z B 6 (stepSums left W Z B 5 (stepSums left W Z B 4
    (stepSums left W Z B 3 (stepSums left W Z B 2 (stepSums left W Z B 1 (stepSums left W Z B 0 (k0_pay7 (F := F)))))))))

/-! ## Its run -/

variable (𝒱 : Variants) (c : Dev nD) (E : Set ℕ)
  (arg2 : Memref sig .tc .vmem S512x128 .i32) (arg3 : Memref sig .tc .vmem S64x128 .i32)
  (arg4 : Memref sig .tc .vmem S2x16x8x128 .i32) (arg5 : Memref sig .tc .vmem S2048x256 .bf16) (harg5 : arg5.IsWhole)
  (arg6 : Memref sig .tc .vmem S16x256 .f32)

/-- The rows' buffer, its first `32 * n` rows at `T`. -/
def rowsHeld (T : Vec F S2048x256 .bf16) (n : Nat) : sProp 𝕄 :=
  iprop(∃ d, ⌜∀ y : S2048x256.Idx, (y 0).val < 32 * n → d y = T y⌝ ∗ owns (c : Thread nD τ) arg5 fullShare d)

/-- The rows of quarter `n`, stored, reach the first `32 * (n + 1)` rows. -/
theorem stored_rows (T : Vec F S2048x256 .bf16) (n : Fin 64) (w : FVec F S32x256 .bf16) (g : arg5.view.ty.Contents (Elt F))
    (hw : ∀ y : S2048x256.Idx, ∀ h : (y 0).val / 32 = n.val, T y = w (fun a => match a with
      | ⟨0, _⟩ => ⟨(y 0).val % 32, by show _ < 32; omega⟩
      | ⟨1, _⟩ => y 1))
    (hd : ∀ y : S2048x256.Idx, (y 0).val < 32 * n.val → arg5.view.read (Elt F) g y = T y) :
    ∀ y : S2048x256.Idx, (y 0).val < 32 * (n.val + 1) →
      arg5.view.read (Elt F) (arg5.view.writes (Elt F) g [⟨Rect.unit (s := S2048x256) ![32 * n.val, 0] S32x256.size (inb_r n), w⟩]) y = T y := by
  intro y hy
  show arg5.view.read (Elt F) ((arg5.view.slice (Rect.unit (s := S2048x256) ![32 * n.val, 0] S32x256.size (inb_r n))).write (Elt F) g w Finset.univ) y = T y
  by_cases hlo : 32 * n.val ≤ (y 0).val
  · rw [hw y (by omega)]
    have hx : ∃ x, (Rect.unit (s := S2048x256) ![32 * n.val, 0] S32x256.size (inb_r n)).emb x = y
        ∧ x = (fun a => match a with
          | ⟨0, _⟩ => ⟨(y 0).val % 32, by show _ < 32; omega⟩
          | ⟨1, _⟩ => y 1 : S32x256.Idx) := by
      refine ⟨_, ?_, rfl⟩
      funext a
      apply Fin.ext
      match a with
      | ⟨0, _⟩ =>
        show 32 * n.val + 1 * ((y 0).val % 32) = (y 0).val
        omega
      | ⟨1, _⟩ =>
        show 0 + 1 * (y 1).val = (y 1).val
        omega
    obtain ⟨x, hx, hx'⟩ := hx
    rw [← hx', ← hx, View.read_slice_write_emb _ _ _ (Finset.mem_univ _)]
  · rw [View.read_slice_write_of_not_mem]
    · exact hd y (by omega)
    · rw [Rect.map_emb_univ]
      intro hm
      rw [← Rect.map_emb_univ] at hm
      obtain ⟨x, -, hx⟩ := Finset.mem_map.mp hm
      have := congrArg (fun z : S2048x256.Idx => (z 0).val) hx
      have h2 : 32 * n.val + 1 * (x 0).val = (y 0).val := this
      omega

theorem rowsAll_of (left : BitVec 32) (W : Vec F S512x128 .i32) (Z : Vec F S64x128 .i32) (n : Fin 64) (y : S2048x256.Idx)
    (h : (y 0).val / 32 = n.val) :
    rowsAll left W Z y = quarterRows left W Z n (fun a => match a with
      | ⟨0, _⟩ => ⟨(y 0).val % 32, by show _ < 32; omega⟩
      | ⟨1, _⟩ => y 1) := by
  unfold rowsAll
  congr 1
  exact Fin.ext h

/-- A quarter returns its rows and leaves them in the buffer. -/
theorem sound_quarter (left : BitVec 32) (W : Vec F S512x128 .i32) (Z : Vec F S64x128 .i32) (n : Fin 64) (cc : Fin 4) (sc : FVec F S128x256 .bf16)
    (hsc : rows32 cc sc (codesOf W n) = quarterRows left W Z n) :
    iprop(owns (c : Thread nD τ) arg2 fullShare W ∗ rowsHeld c arg5 (rowsAll left W Z) n.val)
      ⊢ wp frame (wpE (defs₀ (F := F)) 𝒱 c none) E (quarter arg2 arg5 harg5 n cc sc) (fun r =>
          iprop(⌜r = quarterRows left W Z n⌝ ∗ owns (c : Thread nD τ) arg2 fullShare W ∗ rowsHeld c arg5 (rowsAll left W Z) (n.val + 1))) := by
  unfold rowsHeld quarter owns
  iintro ⟨⟨%f, %hf, H2⟩, %d, %hd, %g, %hg, H5⟩
  sl_exec
  have hv : rows32 cc sc (View.readAt (Elt F) arg2.view (Rect.unit (s := S512x128) ![8 * n.val, 0] S8x128.size (inb_q n)).toLoadRect f)
      = quarterRows left W Z n := by
    rw [← hsc, ← hf]; rfl
  rw [hv]
  sl_step
  isplitr; · ipureintro; rfl
  isplitl [H2]
  · iexists f; isplitr; · ipureintro; exact hf
    iexact H2
  iexists _; isplitr
  swap
  · iexists _; isplitr
    swap; · iexact H5
    ipureintro; rfl
  ipureintro
  exact stored_rows arg5 _ n _ g (rowsAll_of left W Z n) (by rw [hg]; exact hd)

/-- The rows of the eight quarters of step `t`, as the step spells them. -/
theorem quarter_eq (left : BitVec 32) (W : Vec F S512x128 .i32) (Z : Vec F S64x128 .i32) (t : Fin 8) (h : Fin 2) (cc : Fin 4) (n : Fin 64)
    (hn : n.val = 8 * t.val + 4 * h.val + cc.val) :
    rows32 cc (spread h (scalesOf left t.val (zOf Z t))) (codesOf W n) = quarterRows left W Z n := by
  have H : ∀ (c' : Fin 4) (h' : Fin 2) (t' : Fin 8), c' = cc → h' = h → t' = t →
      rows32 cc (spread h (scalesOf left t.val (zOf Z t))) (codesOf W n) = rows32 c' (spread h' (scalesOf left t'.val (zOf Z t'))) (codesOf W n) := by
    rintro _ _ _ rfl rfl rfl; rfl
  exact H ⟨n.val % 4, by omega⟩ ⟨n.val / 4 % 2, by omega⟩ ⟨n.val / 8, by omega⟩
    (Fin.ext (by show n.val % 4 = cc.val; omega)) (Fin.ext (by show n.val / 4 % 2 = h.val; omega)) (Fin.ext (by show n.val / 8 = t.val; omega))

/-- A program that returns `v`, at the head of one that goes on from what it returns. -/
theorem seq {α β : Type} {P P' : sProp 𝕄} {p : Prog (TpuEff nD τ sig (Elt F) Λ₀ .tc) α} {v : α}
    {k : α → Prog (TpuEff nD τ sig (Elt F) Λ₀ .tc) β} {K : β → sProp 𝕄}
    (h : P ⊢ wp frame (wpE (defs₀ (F := F)) 𝒱 c none) E p (fun a => iprop(⌜a = v⌝ ∗ P'))) :
    P ⊢ iprop((P' -∗ wp frame (wpE (defs₀ (F := F)) 𝒱 c none) E (k v) K) -∗ wp frame (wpE (defs₀ (F := F)) 𝒱 c none) E (p >>= k) K) := by
  rw [wp_bind]
  iintro H0 Hk
  ihave H := (h.trans (wp_wand _ _ _ (Q' := fun a => wp frame (wpE (defs₀ (F := F)) 𝒱 c none) E (k a) K))) $$ [H0]
  · iexact H0
  iapply H
  iintro %a ⟨%ha, HP⟩
  subst ha
  iapply Hk
  iexact HP

/-- A load of a window's buffer held at `X`. -/
theorem sound_load {S : Shape} {e : EltTy} (M : Memref sig .tc .vmem S e) (X : S.Idx → Elt F e) (r : Rect S) (hl : M.view.LoadsAt r.toLoadRect) :
    (owns (c : Thread nD τ) M fullShare X : sProp 𝕄) ⊢ wp frame (wpE (defs₀ (F := F)) 𝒱 c none) E (Prog.lift (.load M r.toLoadRect hl))
      (fun v => iprop(⌜v = View.ld X r⌝ ∗ owns (c : Thread nD τ) M fullShare X)) := by
  unfold owns
  iintro ⟨%f, %hf, H⟩
  sl_exec
  sl_step
  isplitr
  · ipureintro; rw [← hf]; rfl
  iexists f; isplitr; · ipureintro; exact hf
  iexact H

/-- A step leaves its rows in the buffer and returns its sums onto those handed to it. -/
theorem sound_step (left : BitVec 32) (W : Vec F S512x128 .i32) (Z : Vec F S64x128 .i32) (B : Vec F S2x16x8x128 .i32) (t : Fin 8)
    (acc : FVec F S32x256 .f32) :
    iprop(owns (c : Thread nD τ) arg2 fullShare W ∗ owns (c : Thread nD τ) arg3 fullShare Z ∗ owns (c : Thread nD τ) arg4 fullShare B
        ∗ rowsHeld c arg5 (rowsAll left W Z) (8 * t.val))
      ⊢ wp frame (wpE (defs₀ (F := F)) 𝒱 c none) E (step arg2 arg3 arg4 arg5 harg5 left t acc) (fun r =>
          iprop(⌜r = stepSums left W Z B t acc⌝ ∗ owns (c : Thread nD τ) arg2 fullShare W ∗ owns (c : Thread nD τ) arg3 fullShare Z
            ∗ owns (c : Thread nD τ) arg4 fullShare B ∗ rowsHeld c arg5 (rowsAll left W Z) (8 * (t.val + 1)))) := by
  have Q := fun n h cc hn => sound_quarter 𝒱 c E arg2 arg5 harg5 left W Z n cc _ (quarter_eq left W Z t h cc n hn)
  unfold step
  iintro ⟨H2, H3, H4, H5⟩
  iapply (seq 𝒱 c E (sound_load 𝒱 c E arg3 Z _ _)) $$ [H3]
  · iexact H3
  iintro H3
  iapply (seq 𝒱 c E (Q _ 0 0 (by simp))) $$ [H2 H5]
  · isplitl [H2]; · iexact H2
    iexact H5
  iintro ⟨H2, H5⟩
  iapply (seq 𝒱 c E (Q _ 0 1 (by simp))) $$ [H2 H5]
  · isplitl [H2]; · iexact H2
    iexact H5
  iintro ⟨H2, H5⟩
  iapply (seq 𝒱 c E (Q _ 0 2 (by simp))) $$ [H2 H5]
  · isplitl [H2]; · iexact H2
    iexact H5
  iintro ⟨H2, H5⟩
  iapply (seq 𝒱 c E (Q _ 0 3 (by simp))) $$ [H2 H5]
  · isplitl [H2]; · iexact H2
    iexact H5
  iintro ⟨H2, H5⟩
  iapply (seq 𝒱 c E (sound_load 𝒱 c E arg4 B _ _)) $$ [H4]
  · iexact H4
  iintro H4
  iapply (seq 𝒱 c E (Q _ 1 0 (by simp))) $$ [H2 H5]
  · isplitl [H2]; · iexact H2
    iexact H5
  iintro ⟨H2, H5⟩
  iapply (seq 𝒱 c E (Q _ 1 1 (by simp))) $$ [H2 H5]
  · isplitl [H2]; · iexact H2
    iexact H5
  iintro ⟨H2, H5⟩
  iapply (seq 𝒱 c E (Q _ 1 2 (by simp))) $$ [H2 H5]
  · isplitl [H2]; · iexact H2
    iexact H5
  iintro ⟨H2, H5⟩
  iapply (seq 𝒱 c E (Q _ 1 3 (by simp))) $$ [H2 H5]
  · isplitl [H2]; · iexact H2
    iexact H5
  iintro ⟨H2, H5⟩
  iapply (seq 𝒱 c E (sound_load 𝒱 c E arg4 B _ _)) $$ [H4]
  · iexact H4
  iintro H4
  rw [wp_pure]; imodintro
  isplitr; · ipureintro; rfl
  isplitl [H2]; · iexact H2
  isplitl [H3]; · iexact H3
  isplitl [H4]; · iexact H4
  iexact H5

/-- The eight steps leave all the rows in the buffer and return all the sums. -/
theorem sound_steps (left : BitVec 32) (W : Vec F S512x128 .i32) (Z : Vec F S64x128 .i32) (B : Vec F S2x16x8x128 .i32) :
    (iprop(owns (c : Thread nD τ) arg2 fullShare W ∗ owns (c : Thread nD τ) arg3 fullShare Z ∗ owns (c : Thread nD τ) arg4 fullShare B
        ∗ ∃ d, owns (c : Thread nD τ) arg5 fullShare d) : sProp 𝕄)
      ⊢ wp frame (wpE (defs₀ (F := F)) 𝒱 c none) E (steps arg2 arg3 arg4 arg5 harg5 left) (fun r =>
          iprop(⌜r = sumsAll left W Z B⌝ ∗ owns (c : Thread nD τ) arg2 fullShare W ∗ owns (c : Thread nD τ) arg3 fullShare Z
            ∗ owns (c : Thread nD τ) arg4 fullShare B ∗ owns (c : Thread nD τ) arg5 fullShare (rowsAll left W Z))) := by
  unfold steps
  iintro ⟨H2, H3, H4, %d, H5⟩
  have S := fun t acc => sound_step 𝒱 c E arg2 arg3 arg4 arg5 harg5 left W Z B t acc
  have h0 : (owns (c : Thread nD τ) arg5 fullShare d : sProp 𝕄) ⊢ rowsHeld c arg5 (rowsAll left W Z) (8 * (0 : Fin 8).val) := by
    unfold rowsHeld
    iintro H5
    iexists d; isplitr
    · ipureintro; intro y hy; exact absurd hy (by simp)
    iexact H5
  ihave H5 := h0 $$ [H5]
  · iexact H5
  iapply (seq 𝒱 c E (S 0 _)) $$ [H2 H3 H4 H5]
  · isplitl [H2]; · iexact H2
    isplitl [H3]; · iexact H3
    isplitl [H4]; · iexact H4
    iexact H5
  iintro H
  iapply (seq 𝒱 c E (S 1 _)) $$ [H]
  · iexact H
  iintro H
  iapply (seq 𝒱 c E (S 2 _)) $$ [H]
  · iexact H
  iintro H
  iapply (seq 𝒱 c E (S 3 _)) $$ [H]
  · iexact H
  iintro H
  iapply (seq 𝒱 c E (S 4 _)) $$ [H]
  · iexact H
  iintro H
  iapply (seq 𝒱 c E (S 5 _)) $$ [H]
  · iexact H
  iintro H
  iapply (seq 𝒱 c E (S 6 _)) $$ [H]
  · iexact H
  iintro H
  refine (S 7 _).trans (wp_mono _ _ _ fun r => ?_)
  unfold rowsHeld
  iintro ⟨%hr, H2, H3, H4, %d, %hd, H5⟩
  obtain rfl : d = rowsAll left W Z := funext fun y => hd y (by have h : (y 0).val < 2048 := (y 0).isLt; simp; omega)
  isplitr; · ipureintro; exact hr
  isplitl [H2]; · iexact H2
  isplitl [H3]; · iexact H3
  isplitl [H4]; · iexact H4
  iexact H5

/-- A store over the whole of a window's buffer. -/
theorem sound_store {S : Shape} {e : EltTy} (M : Memref sig .tc .vmem S e) (X w : S.Idx → Elt F e) {off : Fin S.rank → Nat}
    (hoff : ∀ a, off a = 0) (inb : ∀ a, off a + S.size a ≤ S.size a) {hx} {hm} :
    (owns (c : Thread nD τ) M fullShare X : sProp 𝕄) ⊢ wp frame (wpE (defs₀ (F := F)) 𝒱 c none) E
        (Prog.lift (.store M (Rect.unit (s := S) off S.size inb) w Finset.univ hx hm))
      (fun v => iprop(⌜v = ⟨⟩⌝ ∗ owns (c : Thread nD τ) M fullShare w)) := by
  unfold owns
  iintro ⟨%f, %hf, H⟩
  sl_exec
  sl_step
  isplitr
  · ipureintro; rfl
  iexists _; isplitr
  swap; · iexact H
  ipureintro
  funext y
  show M.view.read (Elt F) ((M.view.slice (Rect.unit (s := S) off S.size inb)).write (Elt F) f w Finset.univ) y = w y
  have hy : (Rect.unit (s := S) off S.size inb).emb y = y := by
    funext a; apply Fin.ext
    show off a + 1 * (y a).val = (y a).val
    rw [hoff a]; omega
  conv_lhs => rw [← hy]
  rw [View.read_slice_write_emb _ _ _ (Finset.mem_univ _)]

theorem off2 : ∀ a, (![0, 0] : Fin 2 → Nat) a = 0 := by decide

/-- The rows a block leaves: zero past the last row's block, else the decoded rows, those past the last zeroed. -/
def blockRows (i : grid0.Coords) (v0 : BitVec 32) (W : Vec F S512x128 .i32) (Z : Vec F S64x128 .i32) : Vec F S2048x256 .bf16 :=
  if k0_cond3 i v0 = 1#1 then
    if k0_cond4 i v0 = 1#1 then
      k0_pay4 (Scalar.subi v0 (Scalar.muli (BitVec.ofNat 32 (i 0).val) 2048#32)) (rowsAll (Scalar.subi v0 (Scalar.muli (BitVec.ofNat 32 (i 0).val) 2048#32)) W Z)
    else rowsAll (Scalar.subi v0 (Scalar.muli (BitVec.ofNat 32 (i 0).val) 2048#32)) W Z
  else k0_pay2 (F := F)

/-- The pooled sums after a point, from those before it. -/
def poolNext (i : grid0.Coords) (v0 : BitVec 32) (W : Vec F S512x128 .i32) (Z : Vec F S64x128 .i32) (B : Vec F S2x16x8x128 .i32)
    (X : Vec F S16x256 .f32) : Vec F S16x256 .f32 :=
  if k0_cond3 i v0 = 1#1 then
    fold (sumsAll (Scalar.subi v0 (Scalar.muli (BitVec.ofNat 32 (i 0).val) 2048#32)) W Z B) (if k0_cond1 i = 1#1 then k0_pay1 (F := F) else X)
  else if k0_cond1 i = 1#1 then k0_pay1 (F := F) else X

theorem sound_zeroPool (i : grid0.Coords) (X : Vec F S16x256 .f32) :
    (owns (c : Thread nD τ) arg6 fullShare X : sProp 𝕄) ⊢ wp frame (wpE (defs₀ (F := F)) 𝒱 c none) E (zeroPool arg6 i)
      (fun v => iprop(⌜v = ⟨⟩⌝ ∗ owns (c : Thread nD τ) arg6 fullShare (if k0_cond1 i = 1#1 then k0_pay1 (F := F) else X))) := by
  unfold zeroPool
  by_cases h : k0_cond1 i = 1#1
  · rw [dif_pos h, if_pos h]
    iintro H
    iapply (seq 𝒱 c E (sound_load 𝒱 c E arg6 X _ _)) $$ [H]
    · iexact H
    iintro H
    iapply (seq 𝒱 c E (sound_store 𝒱 c E arg6 X _ off2 _)) $$ [H]
    · iexact H
    iintro H
    rw [wp_pure]; imodintro
    isplitr; · ipureintro; rfl
    iexact H
  · rw [dif_neg h, if_neg h]
    iintro H
    rw [wp_pure]; imodintro
    isplitr; · ipureintro; rfl
    iexact H

theorem sound_zeroRows (i : grid0.Coords) (v0 : BitVec 32) (X : Vec F S2048x256 .bf16) :
    (owns (c : Thread nD τ) arg5 fullShare X : sProp 𝕄) ⊢ wp frame (wpE (defs₀ (F := F)) 𝒱 c none) E (zeroRows arg5 harg5 i v0)
      (fun v => iprop(⌜v = ⟨⟩⌝ ∗ owns (c : Thread nD τ) arg5 fullShare (if k0_cond2 i v0 = 1#1 then k0_pay2 (F := F) else X))) := by
  unfold zeroRows
  by_cases h : k0_cond2 i v0 = 1#1
  · rw [dif_pos h, if_pos h]
    iintro H
    iapply (seq 𝒱 c E (sound_load 𝒱 c E arg5 X _ _)) $$ [H]
    · iexact H
    iintro H
    iapply (seq 𝒱 c E (sound_store 𝒱 c E arg5 X _ off2 _)) $$ [H]
    · iexact H
    iintro H
    rw [wp_pure]; imodintro
    isplitr; · ipureintro; rfl
    iexact H
  · rw [dif_neg h, if_neg h]
    iintro H
    rw [wp_pure]; imodintro
    isplitr; · ipureintro; rfl
    iexact H

theorem sound_trimRows (i : grid0.Coords) (v0 : BitVec 32) (X : Vec F S2048x256 .bf16) :
    (owns (c : Thread nD τ) arg5 fullShare X : sProp 𝕄) ⊢ wp frame (wpE (defs₀ (F := F)) 𝒱 c none) E (trimRows arg5 harg5 i v0)
      (fun v => iprop(⌜v = ⟨⟩⌝ ∗ owns (c : Thread nD τ) arg5 fullShare
        (if k0_cond4 i v0 = 1#1 then k0_pay4 (Scalar.subi v0 (Scalar.muli (BitVec.ofNat 32 (i 0).val) 2048#32)) X else X))) := by
  unfold trimRows
  by_cases h : k0_cond4 i v0 = 1#1
  · rw [dif_pos h, if_pos h]
    iintro H
    iapply (seq 𝒱 c E (sound_load 𝒱 c E arg5 X _ _)) $$ [H]
    · iexact H
    iintro H
    iapply (seq 𝒱 c E (sound_load 𝒱 c E arg5 X _ _)) $$ [H]
    · iexact H
    iintro H
    rw [View.ld_unit_zero (S := S2048x256) (funext off2)]
    iapply (seq 𝒱 c E (sound_store 𝒱 c E arg5 X _ off2 _)) $$ [H]
    · iexact H
    iintro H
    rw [wp_pure]; imodintro
    isplitr; · ipureintro; rfl
    iexact H
  · rw [dif_neg h, if_neg h]
    iintro H
    rw [wp_pure]; imodintro
    isplitr; · ipureintro; rfl
    iexact H

/-- A live point's run. -/
theorem sound_live (i : grid0.Coords) (v0 : BitVec 32) (W : Vec F S512x128 .i32) (Z : Vec F S64x128 .i32) (B : Vec F S2x16x8x128 .i32)
    (D : Vec F S2048x256 .bf16) (X : Vec F S16x256 .f32) :
    (iprop(owns (c : Thread nD τ) arg2 fullShare W ∗ owns (c : Thread nD τ) arg3 fullShare Z ∗ owns (c : Thread nD τ) arg4 fullShare B
        ∗ owns (c : Thread nD τ) arg5 fullShare D ∗ owns (c : Thread nD τ) arg6 fullShare X) : sProp 𝕄)
      ⊢ wp frame (wpE (defs₀ (F := F)) 𝒱 c none) E (live arg2 arg3 arg4 arg5 harg5 arg6 i v0) (fun _ =>
          iprop(owns (c : Thread nD τ) arg2 fullShare W ∗ owns (c : Thread nD τ) arg3 fullShare Z
            ∗ owns (c : Thread nD τ) arg4 fullShare B
            ∗ owns (c : Thread nD τ) arg5 fullShare (if k0_cond4 i v0 = 1#1 then
                k0_pay4 (Scalar.subi v0 (Scalar.muli (BitVec.ofNat 32 (i 0).val) 2048#32)) (rowsAll (Scalar.subi v0 (Scalar.muli (BitVec.ofNat 32 (i 0).val) 2048#32)) W Z)
              else rowsAll (Scalar.subi v0 (Scalar.muli (BitVec.ofNat 32 (i 0).val) 2048#32)) W Z)
            ∗ owns (c : Thread nD τ) arg6 fullShare (fold (sumsAll (Scalar.subi v0 (Scalar.muli (BitVec.ofNat 32 (i 0).val) 2048#32)) W Z B) X))) := by
  unfold live
  iintro ⟨H2, H3, H4, H5, H6⟩
  iapply (seq 𝒱 c E (sound_steps 𝒱 c E arg2 arg3 arg4 arg5 harg5 _ W Z B)) $$ [H2 H3 H4 H5]
  · isplitl [H2]; · iexact H2
    isplitl [H3]; · iexact H3
    isplitl [H4]; · iexact H4
    iexists D; iexact H5
  iintro ⟨H2, H3, H4, H5⟩
  iapply (seq 𝒱 c E (sound_load 𝒱 c E arg6 X _ _)) $$ [H6]
  · iexact H6
  iintro H6
  iapply (seq 𝒱 c E (sound_load 𝒱 c E arg6 X _ _)) $$ [H6]
  · iexact H6
  iintro H6
  rw [View.ld_unit_zero (S := S16x256) (funext off2)]
  iapply (seq 𝒱 c E (sound_store 𝒱 c E arg6 X _ off2 _)) $$ [H6]
  · iexact H6
  iintro H6
  ihave H := ((sound_trimRows 𝒱 c E arg5 harg5 i v0 _).trans (wp_wand _ _ _ (Q' := fun _ =>
      iprop(owns (c : Thread nD τ) arg2 fullShare W ∗ owns (c : Thread nD τ) arg3 fullShare Z
            ∗ owns (c : Thread nD τ) arg4 fullShare B
            ∗ owns (c : Thread nD τ) arg5 fullShare (if k0_cond4 i v0 = 1#1 then
                k0_pay4 (Scalar.subi v0 (Scalar.muli (BitVec.ofNat 32 (i 0).val) 2048#32)) (rowsAll (Scalar.subi v0 (Scalar.muli (BitVec.ofNat 32 (i 0).val) 2048#32)) W Z)
              else rowsAll (Scalar.subi v0 (Scalar.muli (BitVec.ofNat 32 (i 0).val) 2048#32)) W Z)
            ∗ owns (c : Thread nD τ) arg6 fullShare (fold (sumsAll (Scalar.subi v0 (Scalar.muli (BitVec.ofNat 32 (i 0).val) 2048#32)) W Z B) X))))) $$ [H5]
  · iexact H5
  iapply H
  iintro %a ⟨%ha, H5⟩
  isplitl [H2]; · iexact H2
  isplitl [H3]; · iexact H3
  isplitl [H4]; · iexact H4
  isplitl [H5]; · iexact H5
  iexact H6

theorem cond3_iff (i : grid0.Coords) (v0 : BitVec 32) : k0_cond3 i v0 = 1#1 ↔ (BitVec.ofNat 32 (i 0).val * 2048#32).slt v0 = true := by
  unfold k0_cond3
  show Scalar.cmpi .ne (Scalar.extui (BitVec.ofBool ((BitVec.ofNat 32 (i 0).val * 2048#32).slt v0))) 0#32 = 1#1 ↔ _
  cases (BitVec.ofNat 32 (i 0).val * 2048#32).slt v0 <;> decide

theorem cond2_iff (i : grid0.Coords) (v0 : BitVec 32) : k0_cond2 i v0 = 1#1 ↔ ¬ k0_cond3 i v0 = 1#1 := by
  rw [cond3_iff]
  unfold k0_cond2
  show Scalar.cmpi .ne (Scalar.extui (BitVec.ofBool (v0.sle (BitVec.ofNat 32 (i 0).val * 2048#32)))) 0#32 = 1#1 ↔ _
  have : v0.sle (BitVec.ofNat 32 (i 0).val * 2048#32) = !(BitVec.ofNat 32 (i 0).val * 2048#32).slt v0 := by
    rw [BitVec.sle_eq_not_slt]
  rw [this]
  cases (BitVec.ofNat 32 (i 0).val * 2048#32).slt v0 <;> decide

/-- THE BODY'S RUN: from the table of counts, the three inputs' blocks and the two results' buffers at anything to the
    block's rows and the next pooled sums. -/
theorem sound_body (i : grid0.Coords) (f : TbBuf0 (F := F) c tbM0_0) (v0 : BitVec 32)
    (hv : (tbM0_0.access (Rect.unit (s := S16) ![0] S1.size inb_S16_S1_0) : View sig .tc _ _ _).read (Elt F) f (Shape.Idx.first (s := S1) (numel1_S1.symm ▸ Nat.one_pos)) = v0)
    (W : Vec F S512x128 .i32) (Z : Vec F S64x128 .i32) (B : Vec F S2x16x8x128 .i32)
    (D : Vec F S2048x256 .bf16) (X : Vec F S16x256 .f32) :
    (iprop(tbPt0 c tbM0_0 f ∗ owns (c : Thread nD τ) arg2 fullShare W ∗ owns (c : Thread nD τ) arg3 fullShare Z ∗ owns (c : Thread nD τ) arg4 fullShare B
        ∗ owns (c : Thread nD τ) arg5 fullShare D ∗ owns (c : Thread nD τ) arg6 fullShare X) : sProp 𝕄)
      ⊢ wp frame (wpE (defs₀ (F := F)) 𝒱 c none) E (body arg2 arg3 arg4 arg5 harg5 arg6 i tbM0_0) (fun _ =>
          iprop(tbPt0 c tbM0_0 f ∗ owns (c : Thread nD τ) arg2 fullShare W ∗ owns (c : Thread nD τ) arg3 fullShare Z
            ∗ owns (c : Thread nD τ) arg4 fullShare B ∗ owns (c : Thread nD τ) arg5 fullShare (blockRows i v0 W Z)
            ∗ owns (c : Thread nD τ) arg6 fullShare (poolNext i v0 W Z B X))) := by
  have hsm : (tbPt0 c tbM0_0 f : sProp 𝕄) ⊢ wp frame (wpE (defs₀ (F := F)) 𝒱 c none) E
      (smemLoad tbM0_0 (Rect.unit (s := S16) ![0] S1.size inb_S16_S1_0) numel1_S1 rfl)
      (fun v => iprop(⌜v = v0⌝ ∗ tbPt0 c tbM0_0 f)) := by
    iintro H
    sl_exec
    sl_step
    isplitr; · ipureintro; exact hv
    iexact H
  unfold body
  iintro ⟨H1, H2, H3, H4, H5, H6⟩
  iapply (seq 𝒱 c E hsm) $$ [H1]
  · iexact H1
  iintro H1
  iapply (seq 𝒱 c E (sound_zeroPool 𝒱 c E arg6 i X)) $$ [H6]
  · iexact H6
  iintro H6
  iapply (seq 𝒱 c E (sound_zeroRows 𝒱 c E arg5 harg5 i v0 D)) $$ [H5]
  · iexact H5
  iintro H5
  unfold blockRows poolNext
  by_cases h : k0_cond3 i v0 = 1#1
  · rw [dif_pos h, if_pos h, if_pos h]
    ihave H := ((sound_live 𝒱 c E arg2 arg3 arg4 arg5 harg5 arg6 i v0 W Z B _ _).trans (wp_wand _ _ _ (Q' := fun _ =>
        iprop(tbPt0 c tbM0_0 f ∗ owns (c : Thread nD τ) arg2 fullShare W ∗ owns (c : Thread nD τ) arg3 fullShare Z
              ∗ owns (c : Thread nD τ) arg4 fullShare B
              ∗ owns (c : Thread nD τ) arg5 fullShare (if k0_cond4 i v0 = 1#1 then
                k0_pay4 (Scalar.subi v0 (Scalar.muli (BitVec.ofNat 32 (i 0).val) 2048#32)) (rowsAll (Scalar.subi v0 (Scalar.muli (BitVec.ofNat 32 (i 0).val) 2048#32)) W Z)
              else rowsAll (Scalar.subi v0 (Scalar.muli (BitVec.ofNat 32 (i 0).val) 2048#32)) W Z)
              ∗ owns (c : Thread nD τ) arg6 fullShare (fold (sumsAll (Scalar.subi v0 (Scalar.muli (BitVec.ofNat 32 (i 0).val) 2048#32)) W Z B)
                (if k0_cond1 i = 1#1 then k0_pay1 (F := F) else X)))))) $$ [H2 H3 H4 H5 H6]
    · isplitl [H2]; · iexact H2
      isplitl [H3]; · iexact H3
      isplitl [H4]; · iexact H4
      isplitl [H5]; · iexact H5
      iexact H6
    iapply H
    iintro %a ⟨H2, H3, H4, H5, H6⟩
    isplitl [H1]; · iexact H1
    isplitl [H2]; · iexact H2
    isplitl [H3]; · iexact H3
    isplitl [H4]; · iexact H4
    isplitl [H5]; · iexact H5
    iexact H6
  · rw [dif_neg h, if_neg h, if_neg h, if_pos ((cond2_iff i v0).mpr h)]
    rw [wp_pure]; imodintro
    isplitl [H1]; · iexact H1
    isplitl [H2]; · iexact H2
    isplitl [H3]; · iexact H3
    isplitl [H4]; · iexact H4
    isplitl [H5]; · iexact H5
    iexact H6

end Cert.Kernel.Clean

end
-- ==== Proof.Kernel.Launch.lean ====
/- The call's proof data, its body at every point, the whole run, and the claim that the arguments end unchanged. -/
module

public import proofs.«01_k».proof.Proof.Kernel.Blocks
public import proofs.«01_k».proof.Proof.Kernel.BodyEq
public import proofs.«01_k».proof.Proof.Kernel.Run
public import Idealize.ShloMosaic.Lib.Claim
public import Idealize.ShloMosaic.Lib.Pipeline.TableIdle

@[expose] public section

noncomputable section

namespace Cert.Kernel.Clean

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline at the launch memory's tables: every memory is admissible. -/
abbrev hO : Ok m := ok0_all (tbl m)

/-- The number of distinct rows, from the launch memory. -/
def nu : BitVec 32 := count (tbl m)

theorem atD_count (pf : pre0.Contents (Elt F)) : pf.atD 0 ![0] = count pf := by
  unfold count Pipeline.Prefetch.Contents.atD
  rw [dif_pos (by decide)]; rfl

/-! ## The blocks a point is handed -/

/-- The codes' block of point `t`, -/
def codesBlk (c : Dev nD) (t : Fin (cfgM m (hO m)).N) : Vec F S512x128 .i32 := iblk m (hO m) c 0 t
/-- the scale words', -/
def scalesBlk (c : Dev nD) (t : Fin (cfgM m (hO m)).N) : Vec F S64x128 .i32 := iblk m (hO m) c 1 t
/-- and the counts'. -/
def countsBlk (c : Dev nD) (t : Fin (cfgM m (hO m)).N) : Vec F S2x16x8x128 .i32 := iblk m (hO m) c 2 t

/-! ## The pooled sums, point after point -/

/-- The pooled sums before point `n`: zero, then each point's contribution in turn. -/
def poolAt (c : Dev nD) : (n : ℕ) → n ≤ (cfgM m (hO m)).N → Vec F S16x256 .f32
  | 0, _ => k0_pay1
  | n + 1, h => poolNext (grid0.coords ⟨n, h⟩) (nu m) (codesBlk m c ⟨n, h⟩) (scalesBlk m c ⟨n, h⟩)
      (countsBlk m c ⟨n, h⟩) (poolAt c n (Nat.le_of_lt h))

theorem poolAt_congr (c : Dev nD) {a b : ℕ} (h : a = b) (ha : a ≤ (cfgM m (hO m)).N) (hb : b ≤ (cfgM m (hO m)).N) :
    poolAt m c a ha = poolAt m c b hb := by
  subst h; rfl

/-! ## The proof data -/

def dats (_ : Fin 1) (c : Dev nD) : Dat τ (Elt F) Unit ℕ (UR sig nD τ) ℕ (cfgM m (hO m)) c where
  A w := V m c (Pipeline.arrRef spec0 w)
  after w t := match w with
    | ⟨0, _⟩ => codesBlk m c t
    | ⟨1, _⟩ => scalesBlk m c t
    | ⟨2, _⟩ => countsBlk m c t
    | ⟨3, _⟩ => blockRows (grid0.coords t) (nu m) (codesBlk m c t) (scalesBlk m c t)
    | ⟨4, _⟩ => poolAt m c (t.val + 1) t.isLt
  Φ _ := iprop(Pipeline.ΦA spec0 c ∗ Pipeline.ΦT pre0 (tbl m) c)
  q _ := fullShare
  owed _ := 0

theorem A_eq (c : Dev nD) (w : Fin (cfgM m (hO m)).W) : (dats m 0 c).A w = V m c (Pipeline.arrRef spec0 w) := by
  dsimp only [dats]

theorem after0_0 (c : Dev nD) (t : Fin (cfgM m (hO m)).N) : (dats m 0 c).after 0 t = codesBlk m c t := by dsimp only [dats] <;> rfl
theorem after0_1 (c : Dev nD) (t : Fin (cfgM m (hO m)).N) : (dats m 0 c).after 1 t = scalesBlk m c t := by dsimp only [dats] <;> rfl
theorem after0_2 (c : Dev nD) (t : Fin (cfgM m (hO m)).N) : (dats m 0 c).after 2 t = countsBlk m c t := by dsimp only [dats] <;> rfl
theorem after0_3 (c : Dev nD) (t : Fin (cfgM m (hO m)).N) : (dats m 0 c).after 3 t
    = blockRows (grid0.coords t) (nu m) (codesBlk m c t) (scalesBlk m c t) := by dsimp only [dats] <;> rfl
theorem after0_4 (c : Dev nD) (t : Fin (cfgM m (hO m)).N) : (dats m 0 c).after 4 t = poolAt m c (t.val + 1) t.isLt := by dsimp only [dats] <;> rfl

theorem before0_0 (c : Dev nD) (t : Fin (cfgM m (hO m)).N) (d) : (dats m 0 c).before 0 t d = codesBlk m c t :=
  before0_0_of m (hO m) (dats m 0 c) (A_eq m c 0) (after0_0 m c) t d
theorem before0_1 (c : Dev nD) (t : Fin (cfgM m (hO m)).N) (d) : (dats m 0 c).before 1 t d = scalesBlk m c t :=
  before0_1_of m (hO m) (dats m 0 c) (A_eq m c 1) (after0_1 m c) t d
theorem before0_2 (c : Dev nD) (t : Fin (cfgM m (hO m)).N) (d) : (dats m 0 c).before 2 t d = countsBlk m c t :=
  before0_2_of m (hO m) (dats m 0 c) (A_eq m c 2) (after0_2 m c) t d

/-! ## The pooled sums' buffer -/

theorem cond1_iff (i : grid0.Coords) : k0_cond1 i = 1#1 ↔ (i 0).val = 0 := by
  have h : ∀ j : Fin 49, Scalar.cmpi .ne (Scalar.extui (Scalar.cmpi .eq (BitVec.ofNat 32 j.val) 0#32)) 0#32 = 1#1 ↔ j.val = 0 := by decide
  exact h (i 0)

theorem poolNext_first {i : grid0.Coords} (h1 : k0_cond1 i = 1#1) (v : BitVec 32) (W : Vec F S512x128 .i32) (Z : Vec F S64x128 .i32)
    (B : Vec F S2x16x8x128 .i32) (X X' : Vec F S16x256 .f32) : poolNext i v W Z B X = poolNext i v W Z B X' := by
  unfold poolNext
  rw [if_pos h1, if_pos h1]

theorem poolNext_idle {i : grid0.Coords} {v : BitVec 32} (h1 : ¬ k0_cond1 i = 1#1) (h3 : ¬ k0_cond3 i v = 1#1) (W : Vec F S512x128 .i32) (Z : Vec F S64x128 .i32)
    (B : Vec F S2x16x8x128 .i32) (X : Vec F S16x256 .f32) : poolNext i v W Z B X = X := by
  unfold poolNext
  rw [if_neg h1, if_neg h3]

/-- A point idle for the pooled sums: not the first, and past the last distinct row. -/
theorem idle4 (t : Fin (cfgM m (hO m)).N) (h : (cfgM m (hO m)).idle 4 ((cfgM m (hO m)).grid.coords t) = true) :
    ¬ k0_cond1 (grid0.coords t) = 1#1 ∧ ¬ k0_cond3 (grid0.coords t) (nu m) = 1#1 := by
  have h' : (!(k0_cond1 (grid0.coords t) == 1#1) && !(k0_cond3 (grid0.coords t) ((tbl m).atD 0 ![0]) == 1#1)) = true := h
  rw [atD_count] at h'
  simpa [nu] using h'

/-- There the pooled sums stay. -/
theorem carry4 (c : Dev nD) (t : Fin (cfgM m (hO m)).N) (h : (cfgM m (hO m)).idle 4 ((cfgM m (hO m)).grid.coords t) = true) :
    (dats m 0 c).after 4 t = poolAt m c t.val (Nat.le_of_lt t.isLt) := by
  obtain ⟨h1, h3⟩ := idle4 m t h
  rw [after0_4]
  exact poolNext_idle h1 h3 _ _ _ _

theorem fresh4 : ∀ n, 0 < n → n ≤ 48 → (cfgM m (hO m)).fresh 4 n = false
  | 0, h, _ => absurd h (by omega)
  | n + 1, _, h => by
    have hN : n < (cfgM m (hO m)).N := by have : (cfgM m (hO m)).N = 49 := N_0; omega
    rw [Pipeline.Cfg.fresh_succ _ _ _ hN]
    have hf : ((cfgM m (hO m)).win 4).flush ⟨n, hN⟩ = false := by
      rw [Bool.eq_false_iff]; intro h'
      have := (flush0_4 (adm m (hO m)) ⟨n, hN⟩).mp h'
      simp only at this; omega
    rw [hf, Bool.false_or]
    rcases Nat.eq_zero_or_pos n with rfl | hn
    · rw [Bool.and_eq_false_iff]; left
      rw [Bool.eq_false_iff]; intro h'
      refine (idle4 m _ h').1 ((cond1_iff _).mpr ?_)
      rw [coords0]
    · rw [fresh4 n hn (by omega), Bool.and_false]

theorem before0_4 (c : Dev nD) (t : Fin (cfgM m (hO m)).N) (ht : t.val ≠ 0) (d) :
    (dats m 0 c).before 4 t d = poolAt m c t.val (Nat.le_of_lt t.isLt) := by
  have hN : t.val < 49 := t.isLt.trans_le N_0.le
  rw [(dats m 0 c).before_out_traj 4 rfl (fun _ _ => rfl) (fun t' h0 hi _ => ?_) _ t rfl d, fresh4 m _ (by omega) (by omega),
    if_neg Bool.false_ne_true, after0_4]
  · exact poolAt_congr m c (Nat.sub_add_cancel (Nat.pos_of_ne_zero ht)) _ _
  · rw [carry4 m c t' hi, after0_4]
    exact poolAt_congr m c (Nat.sub_add_cancel (Nat.pos_of_ne_zero h0)).symm _ _

/-- The buffer after the body holds the next sums, whatever an unwritten one held. -/
theorem pool_step (c : Dev nD) (t : Fin (cfgM m (hO m)).N) (d) :
    poolNext (grid0.coords t) (nu m) (codesBlk m c t) (scalesBlk m c t) (countsBlk m c t) ((dats m 0 c).before 4 t d)
      = poolAt m c (t.val + 1) t.isLt := by
  by_cases ht : t.val = 0
  · have h1 : k0_cond1 (grid0.coords t) = 1#1 := (cond1_iff _).mpr (by rw [coords0]; exact ht)
    exact poolNext_first h1 _ _ _ _ _ _
  · rw [before0_4 m c t ht d]; rfl

/-! ## The body obligation -/

/-- The table word the body reads is the count. -/
theorem read_count (c : Dev nD) : (tbM0_0.access (Rect.unit (s := S16) ![0] S1.size inb_S16_S1_0) : View sig .tc _ _ _).read (Elt F)
    (tbl m 0 : TbBuf0 (F := F) c tbM0_0) (Shape.Idx.first (s := S1) (numel1_S1.symm ▸ Nat.one_pos)) = nu m := rfl

def bodyPre (c : Dev nD) (t : Fin (cfgM m (hO m)).N) : sProp 𝕄 :=
  iprop((dats m 0 c).Φ t.castSucc ∗ (dats m 0 c).owesAt () t.castSucc
    ∗ (∃ d, owns (c : Thread nD τ) (st0_0 (adm m (hO m)) t) fullShare ((dats m 0 c).before 0 t d))
    ∗ (∃ d, owns (c : Thread nD τ) (st0_1 (adm m (hO m)) t) fullShare ((dats m 0 c).before 1 t d))
    ∗ (∃ d, owns (c : Thread nD τ) (st0_2 (adm m (hO m)) t) fullShare ((dats m 0 c).before 2 t d))
    ∗ (∃ d, owns (c : Thread nD τ) (st0_3 (adm m (hO m)) t) fullShare ((dats m 0 c).before 3 t d))
    ∗ (∃ d, owns (c : Thread nD τ) (st0_4 (adm m (hO m)) t) fullShare ((dats m 0 c).before 4 t d)))

def bodyPost (c : Dev nD) (t : Fin (cfgM m (hO m)).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem owns_of_eq {c : Dev nD} {S : Shape} {e : EltTy} (M : Memref sig .tc .vmem S e) {X Y : S.Idx → Elt F e} (h : X = Y) :
    owns (c : Thread nD τ) M fullShare X ⊢ (owns (c : Thread nD τ) M fullShare Y : sProp 𝕄) := by
  subst h; exact .rfl

theorem leaves0 (c : Dev nD) (t : Fin (cfgM m (hO m)).N) :
    owns (c : Thread nD τ) (st0_0 (adm m (hO m)) t) fullShare ((dats m 0 c).after 0 t) ⊢ ((dats m 0 c).leavesExact 0 t : sProp 𝕄) := .rfl

theorem leaves1 (c : Dev nD) (t : Fin (cfgM m (hO m)).N) :
    owns (c : Thread nD τ) (st0_1 (adm m (hO m)) t) fullShare ((dats m 0 c).after 1 t) ⊢ ((dats m 0 c).leavesExact 1 t : sProp 𝕄) := .rfl

theorem leaves2 (c : Dev nD) (t : Fin (cfgM m (hO m)).N) :
    owns (c : Thread nD τ) (st0_2 (adm m (hO m)) t) fullShare ((dats m 0 c).after 2 t) ⊢ ((dats m 0 c).leavesExact 2 t : sProp 𝕄) := .rfl

theorem leaves3 (c : Dev nD) (t : Fin (cfgM m (hO m)).N) :
    owns (c : Thread nD τ) (st0_3 (adm m (hO m)) t) fullShare ((dats m 0 c).after 3 t) ⊢ ((dats m 0 c).leavesExact 3 t : sProp 𝕄) := by
  unfold Dat.leavesExact
  rw [flush0_3 (adm m (hO m)) t]
  cases (cfgM m (hO m)).idle 3 ((cfgM m (hO m)).grid.coords t) <;> exact .rfl

theorem leaves4 (c : Dev nD) (t : Fin (cfgM m (hO m)).N) :
    owns (c : Thread nD τ) (st0_4 (adm m (hO m)) t) fullShare ((dats m 0 c).after 4 t) ⊢ ((dats m 0 c).leavesExact 4 t : sProp 𝕄) := by
  unfold Dat.leavesExact
  cases hi : (cfgM m (hO m)).idle 4 ((cfgM m (hO m)).grid.coords t)
  · exact .rfl
  · cases ((cfgM m (hO m)).win 4).flush t
    · have ht : t.val ≠ 0 := fun h0 => (idle4 m t hi).1 ((cond1_iff _).mpr (by rw [coords0]; exact h0))
      have e : (dats m 0 c).after 4 t = (dats m 0 c).before 4 t (k0_pay1 (F := F)) :=
        (carry4 m c t hi).trans (before0_4 m c t ht _).symm
      exact (owns_of_eq (st0_4 (adm m (hO m)) t) e).trans (exists_intro (Φ := fun d => owns (c : Thread nD τ) (st0_4 (adm m (hO m)) t) fullShare ((dats m 0 c).before 4 t d)) _)
    · exact .rfl

/-- The body at point `t`, by its clean form. -/
theorem bodyAt0_eq (a : (pcfg0 (F := F)).Adm) (t : Fin (cfg0 a).N) : bodyAt0 a t
    = body (spec0_0.stage ((cfg0 a).slots t 0)) (spec0_1.stage ((cfg0 a).slots t 1)) (spec0_2.stage ((cfg0 a).slots t 2))
        (spec0_3.stage ((cfg0 a).slots t 3)) (hstage0_3 (((cfg0 a).slots t 3).cast nbuf0_3)) (spec0_4.stage ((cfg0 a).slots t 4)) (grid0.coords t) tbM0_0 :=
  body_eq (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

theorem sound_point (c : Dev nD) (t : Fin (cfgM m (hO m)).N) :
    bodyPre m c t ⊢ wp frame (wpE (defs₀ (F := F)) Variants.none c none) Set.univ (bodyAt0 (adm m (hO m)) t) (fun _ => bodyPost m c t) := by
  rw [bodyAt0_eq]
  unfold bodyPre bodyPost
  simp only [before0_0, before0_1, before0_2]
  have hΦ : (dats m 0 c).Φ t.castSucc = iprop(Pipeline.ΦA spec0 c ∗ tbPt0 c tbM0_0 (tbl m 0)) := by rw [← PhiT0_eq]; rfl
  rw [show (dats m 0 c).Φ t.succ = (dats m 0 c).Φ t.castSucc from rfl,
    show (dats m 0 c).owesAt () t.succ = (dats m 0 c).owesAt () t.castSucc from rfl, hΦ]
  iintro ⟨⟨HA, HT⟩, Ho, ⟨%d0, H0⟩, ⟨%d1, H1⟩, ⟨%d2, H2⟩, ⟨%d3, H3⟩, ⟨%d4, H4⟩⟩
  ihave H := ((sound_body Variants.none c Set.univ (spec0_0.stage ((cfg0 (adm m (hO m))).slots t 0)) (spec0_1.stage ((cfg0 (adm m (hO m))).slots t 1)) (spec0_2.stage ((cfg0 (adm m (hO m))).slots t 2)) (spec0_3.stage ((cfg0 (adm m (hO m))).slots t 3))
      (hstage0_3 (((cfg0 (adm m (hO m))).slots t 3).cast nbuf0_3)) (spec0_4.stage ((cfg0 (adm m (hO m))).slots t 4)) (grid0.coords t) (tbl m 0) (nu m) (read_count m c)
      (codesBlk m c t) (scalesBlk m c t) (countsBlk m c t) ((dats m 0 c).before 3 t d3) ((dats m 0 c).before 4 t d4)).trans (wp_wand _ _ _ (Q' := fun _ =>
        iprop((Pipeline.ΦA spec0 c ∗ tbPt0 c tbM0_0 (tbl m 0)) ∗ (dats m 0 c).owesAt () t.castSucc
          ∗ (dats m 0 c).leavesExact 0 t ∗ (dats m 0 c).leavesExact 1 t ∗ (dats m 0 c).leavesExact 2 t
          ∗ (dats m 0 c).leavesExact 3 t ∗ (dats m 0 c).leavesExact 4 t)))) $$ [HT H0 H1 H2 H3 H4]
  · isplitl [HT]; · iexact HT
    isplitl [H0]; · iexact H0
    isplitl [H1]; · iexact H1
    isplitl [H2]; · iexact H2
    isplitl [H3]; · iexact H3
    iexact H4
  iapply H
  iintro %a ⟨HT, H0, H1, H2, H3, H4⟩
  isplitl [HA HT]
  · isplitl [HA]; · iexact HA
    iexact HT
  isplitl [Ho]; · iexact Ho
  isplitl [H0]; · iapply (leaves0 m c t); iapply (owns_of_eq (st0_0 (adm m (hO m)) t) (after0_0 m c t).symm); iexact H0
  isplitl [H1]; · iapply (leaves1 m c t); iapply (owns_of_eq (st0_1 (adm m (hO m)) t) (after0_1 m c t).symm); iexact H1
  isplitl [H2]; · iapply (leaves2 m c t); iapply (owns_of_eq (st0_2 (adm m (hO m)) t) (after0_2 m c t).symm); iexact H2
  isplitl [H3]
  · iapply (leaves3 m c t); iapply (owns_of_eq (st0_3 (adm m (hO m)) t) (after0_3 m c t).symm); iexact H3
  · iapply (leaves4 m c t); iapply (owns_of_eq (st0_4 (adm m (hO m)) t) ((pool_step m c t d4).trans (after0_4 m c t).symm)); iexact H4

theorem defs₀_row (t : Fin (cfgM m (hO m)).N) :
    defs₀ (F := F) .tc (cfgM m (hO m)).body ((cfgM m (hO m)).bodyArgs t ((cfgM m (hO m)).slots t)) = bodyAt0 (adm m (hO m)) t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_point m c t) rfl .rfl fun _ => .rfl

/-! ## The run and the frame -/

set_option backward.isDefEq.respectTransparency.types false in
theorem run_main_quiescent : θ_run defs (onTc (τ := τ) (main (F := F))) (s₀ m ρ)
    (fun r => (Pipeline.FramePost (Pipeline.pin pcfgs fun _ => adm m (hO m)) (dats m) 0 (V m)) r ∧ r.2.sem = fun _ => 0) :=
  Pipeline.θ_run_frameP (Q' := _) pcfgs (fun _ => adm m (hO m)) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m) (hΦ := fun _ _ => rfl)

theorem run_main : θ_run defs (onTc (τ := τ) (main (F := F))) (s₀ m ρ) (Pipeline.FramePost (Pipeline.pin pcfgs fun _ => adm m (hO m)) (dats m) 0 (V m)) :=
  (θ_run defs _ _).mono (fun _ h => h.1) (run_main_quiescent m ρ)

/-- The call terminates without fault and leaves its arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (hO m) (dats m) (A_eq m) (run_main m ρ)) ((θ_run defs _ _).mono (fun _ h => h.2) (run_main_quiescent m ρ))

end Cert.Kernel.Clean

end
-- ==== Proof.KernelIdeal.Points.lean ====
/- The schedule of the call: which points write each result back, the staging buffers a point works in, and the
   body as the pipeline calls it there. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

-- window 0: no schedule fact — its index map reads a prefetched table, so where it is fetched or written back depends on the tables' contents
-- window 1: no schedule fact — its index map reads a prefetched table, so where it is fetched or written back depends on the tables' contents
-- window 2: no schedule fact — its index map reads a prefetched table, so where it is fetched or written back depends on the tables' contents
/-- Window 3 (result 0 (%0#0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 0 (by decide) (by decide) (Pipeline.Window.sep_of_coord cc0_transform_3 0 0 (fun _ => rfl) (by decide)) (P := 1) (m := 0) (by decide) rfl t).mpr (Nat.mod_one _) : ∀ t : Fin grid0.N, Pipeline.Window.flushOf grid0 true cc0_transform_3 t = true)
/-- Window 4 (result 1 (%0#1)) is written back at the last point only, at any contents of the tables (its index map reads none). -/
theorem flush0_4 (a : (pcfg0 (F := F)).Adm) : ∀ t : Fin (cfg0 a).N, ((cfg0 a).win 4).flush t = true ↔ t.val % 49 = 48 :=
  (fun t => Pipeline.Window.flushOf_const cc0_transform_4 (fun _ _ => rfl) (n := 49) (by decide) rfl t : ∀ t : Fin grid0.N, Pipeline.Window.flushOf grid0 true cc0_transform_4 t = true ↔ t.val % 49 = 48)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_dequant_pool (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

end Cert.KernelIdeal.Gen

end
-- ==== Proof.KernelIdeal.Frame.lean ====
/- The launch side of the call: @main up to its one region, the arrays' contents there, the prefetched table, each
   input's block at a point, and the claim that the arguments end unchanged, from any run of the pipeline. -/
module

public import proofs.«01_k».proof.Proof.Gen.KernelIdeal.Launch
public import proofs.«01_k».proof.Proof.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S16 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 2).trans (((dats 0 c).arrAt_in 2 rfl _).trans ((hA c 2).trans (V_main_arg3 m c)))⟩) h

end Cert.KernelIdeal.Gen

end
-- ==== Proof.KernelIdeal.Blocks.lean ====
/- Which block of each input a point is handed: the block of the grid point, or past the last distinct row the block of
   the last row, always inside the array, whatever the table says. -/
module

public import proofs.«01_k».proof.Proof.KernelIdeal.Frame
public import Idealize.ShloMosaic.Lib.Affine
public import Idealize.ShloMosaic.Lib.Routing.BitFacts

@[expose] public section

noncomputable section

namespace Cert.KernelIdeal.Clean

open Idealize.ShloMosaic Idealize.ShloMosaic.TcCoe
open Cert.KernelIdeal Cert.KernelIdeal.Gen

variable {F : FTy → Type} [FloatOps F]

/-- The block of the last of `v` rows: `(v - 1) / 2048` rounded down, and 0 if that is negative. -/
def lastBlock (v : BitVec 32) : BitVec 32 :=
  Scalar.maxsi (Scalar.select (Scalar.andi
      (Scalar.cmpi .ne (Scalar.subi (Scalar.extui (Scalar.cmpi .sgt (Scalar.subi v 1#32) 0#32)) (Scalar.extui (Scalar.cmpi .slt (Scalar.subi v 1#32) 0#32)))
        (Scalar.subi (Scalar.extui (Scalar.cmpi .sgt 2048#32 0#32)) (Scalar.extui (Scalar.cmpi .slt 2048#32 0#32))))
      (Scalar.cmpi .ne (Scalar.remsi (Scalar.subi v 1#32) 2048#32) 0#32))
    (Scalar.subi (Scalar.divsi (Scalar.subi v 1#32) 2048#32) 1#32) (Scalar.divsi (Scalar.subi v 1#32) 2048#32)) 0#32

/-- The block handed to the point of word `i`. -/
def blockAt (v i : BitVec 32) : BitVec 32 := Scalar.minsi i (lastBlock v)

/-- The count of distinct rows, as the tables hold it. -/
def count (pf : pre0.Contents (Elt F)) : BitVec 32 := pf.at 0 (Rect.unit (s := S16) ![0] S1.size inb_S16_S1_0) numel1_S1

theorem transform_0 (pf : pre0.Contents (Elt F)) (i : grid0.Coords) :
    cc0_transform_0 inb_S16_S1_0 numel1_S1 pf i = ![(blockAt (count pf) (BitVec.ofNat 32 (i 0).val)).toNat, 0] := rfl
theorem transform_1 (pf : pre0.Contents (Elt F)) (i : grid0.Coords) :
    cc0_transform_1 inb_S16_S1_0 numel1_S1 pf i = ![(blockAt (count pf) (BitVec.ofNat 32 (i 0).val)).toNat, 0] := rfl
theorem transform_2 (pf : pre0.Contents (Elt F)) (i : grid0.Coords) :
    cc0_transform_2 inb_S16_S1_0 numel1_S1 pf i = ![0, (blockAt (count pf) (BitVec.ofNat 32 (i 0).val)).toNat, 0, 0] := rfl

theorem lastBlock_nonneg (v : BitVec 32) : 0 ≤ (lastBlock v).toInt := by
  unfold lastBlock
  show 0 ≤ (IntOp.maxsi _ 0#32).toInt
  unfold IntOp.maxsi
  split
  · rename_i h
    rw [BitVec.slt_iff_toInt_lt] at h
    have : (0#32).toInt = 0 := by decide
    omega
  · decide

theorem blockAt_le (v : BitVec 32) (n : Nat) (hn : n < 49) : (blockAt v (BitVec.ofNat 32 n)).toNat < 49 := by
  have h0 := lastBlock_nonneg v
  unfold blockAt
  show (IntOp.minsi _ _).toNat < 49
  have hn' : (BitVec.ofNat 32 n).toNat = n := by rw [BitVec.toNat_ofNat]; omega
  have hi : (BitVec.ofNat 32 n).toInt = n := by rw [BitVec.toInt_eq_toNat_of_lt (by omega), hn']
  unfold IntOp.minsi
  split
  · omega
  · rename_i h
    rw [BitVec.slt_iff_toInt_lt] at h
    have hl := BitVec.toInt_eq_toNat_cond (lastBlock v)
    have := (lastBlock v).isLt
    split at hl <;> omega

theorem blockAt_coords (v : BitVec 32) (i : grid0.Coords) : (blockAt v (BitVec.ofNat 32 (i 0).val)).toNat < 49 :=
  blockAt_le v _ (i 0).isLt

/-- Every window's block lies in its array at every point, whatever the tables hold. -/
theorem ok0_all (pf : pre0.Contents (Elt F)) : ok0 pf := by
  unfold ok0
  refine ⟨fun i => ⟨fun a => ?_, .inl rfl⟩, fun i => ⟨fun a => ?_, .inl rfl⟩, fun i => ⟨fun a => ?_, .inl rfl⟩⟩
  · rw [transform_0]
    have h := blockAt_coords (count pf) i
    match a with
    | ⟨0, _⟩ => show ((blockAt (count pf) (BitVec.ofNat 32 (i 0).val)).toNat + 1) * 512 ≤ 25088; omega
    | ⟨1, _⟩ => show (0 + 1) * 128 ≤ 128; omega
  · rw [transform_1]
    have h := blockAt_coords (count pf) i
    match a with
    | ⟨0, _⟩ => show ((blockAt (count pf) (BitVec.ofNat 32 (i 0).val)).toNat + 1) * 64 ≤ 3136; omega
    | ⟨1, _⟩ => show (0 + 1) * 128 ≤ 128; omega
  · rw [transform_2]
    have h := blockAt_coords (count pf) i
    match a with
    | ⟨0, _⟩ => show (0 + 1) * 2 ≤ 2; omega
    | ⟨1, _⟩ => show ((blockAt (count pf) (BitVec.ofNat 32 (i 0).val)).toNat + 1) * 16 ≤ 784; omega
    | ⟨2, _⟩ => show (0 + 1) * 8 ≤ 8; omega
    | ⟨3, _⟩ => show (0 + 1) * 128 ≤ 128; omega

/-- Of positive counts the last block is the count of full blocks before the last row. -/
theorem lastBlock_pos (v : BitVec 32) (h : 0 < v.toInt) : lastBlock v = BitVec.ofNat 32 ((v.toNat - 1) / 2048) := by
  have hv : v.toNat < 2147483648 ∧ 0 < v.toNat := by
    have h1 := BitVec.toInt_eq_toNat_cond v
    have h2 := v.isLt
    split at h1 <;> omega
  obtain ⟨n, hn, rfl⟩ : ∃ n, n < 2147483647 ∧ v = BitVec.ofNat 32 (n + 1) :=
    ⟨v.toNat - 1, by omega, BitVec.eq_of_toNat_eq (by rw [BitVec.toNat_ofNat, Nat.mod_eq_of_lt (by omega)]; omega)⟩
  have e0 : (BitVec.ofNat 32 (n + 1)).toNat - 1 = n := by rw [BitVec.toNat_ofNat]; omega
  have e1 : Scalar.subi (BitVec.ofNat 32 (n + 1)) 1#32 = BitVec.ofNat 32 n := by
    show BitVec.ofNat 32 (n + 1) - BitVec.ofNat 32 1 = _
    rw [Routing.ofNat32_sub (by omega)]; rfl
  have e2 : Scalar.divsi (BitVec.ofNat 32 n) 2048#32 = BitVec.ofNat 32 (n / 2048) := by
    show IntOp.divsi .scalar _ _ = _
    unfold IntOp.divsi
    rw [if_neg (IntOp.not_corner_of_pos (by decide))]
    exact Routing.sdiv_ofNat32 (by omega) (by omega)
  have hI : ∀ k : Nat, k < 2147483648 → (BitVec.ofNat 32 k).toInt = k := fun k hk => by
    rw [BitVec.toInt_eq_toNat_of_lt (by rw [BitVec.toNat_ofNat]; omega), BitVec.toNat_ofNat]; omega
  unfold lastBlock
  rw [e0, e1, e2]
  have hsel : Scalar.andi
      (Scalar.cmpi .ne (Scalar.subi (Scalar.extui (Scalar.cmpi .sgt (BitVec.ofNat 32 n) 0#32)) (Scalar.extui (Scalar.cmpi .slt (BitVec.ofNat 32 n) 0#32)))
        (Scalar.subi (Scalar.extui (Scalar.cmpi .sgt 2048#32 0#32)) (Scalar.extui (Scalar.cmpi .slt 2048#32 0#32))))
      (Scalar.cmpi .ne (Scalar.remsi (BitVec.ofNat 32 n) 2048#32) 0#32) ≠ (1 : BitVec 1) := by
    rcases Nat.eq_zero_or_pos n with rfl | hp
    · decide
    · have h1 : Scalar.cmpi .sgt (BitVec.ofNat 32 n) 0#32 = 1#1 := IntOp.cmpi_sgt.mpr (by rw [hI n (by omega)]; show (0 : Int) < n; omega)
      have h2 : Scalar.cmpi .slt (BitVec.ofNat 32 n) 0#32 = 0#1 := by
        have : ¬ Scalar.cmpi .slt (BitVec.ofNat 32 n) 0#32 = 1#1 := fun hh => by
          have := IntOp.cmpi_slt.mp hh
          rw [hI n (by omega)] at this
          have h0 : (0#32).toInt = 0 := by decide
          omega
        revert this; generalize Scalar.cmpi .slt (BitVec.ofNat 32 n) 0#32 = b; revert b; decide
      rw [h1, h2]
      intro hh
      have := (IntOp.andi_eq_one.mp hh).1
      revert this; decide
  unfold Scalar.select
  rw [if_neg hsel]
  show IntOp.maxsi _ _ = _
  unfold IntOp.maxsi
  split
  · rfl
  · rename_i hs
    rw [BitVec.slt_iff_toInt_lt, hI (n / 2048) (by omega)] at hs
    have h0 : (0#32).toInt = 0 := by decide
    have : n / 2048 = 0 := by omega
    rw [this]

/-- A point before the last row's end is handed its own block. -/
theorem blockAt_live (v : BitVec 32) (n : Nat) (hn : n < 49) (h : (2048 * n : Int) < v.toInt) : (blockAt v (BitVec.ofNat 32 n)).toNat = n := by
  have hv : (2048 * n : Int) < v.toNat ∧ v.toNat < 2147483648 := by
    have h1 := BitVec.toInt_eq_toNat_cond v
    have h2 := v.isLt
    split at h1 <;> omega
  have hI : ∀ k : Nat, k < 2147483648 → (BitVec.ofNat 32 k).toInt = k := fun k hk => by
    rw [BitVec.toInt_eq_toNat_of_lt (by rw [BitVec.toNat_ofNat]; omega), BitVec.toNat_ofNat]; omega
  unfold blockAt
  rw [lastBlock_pos v (by omega)]
  show (IntOp.minsi _ _).toNat = n
  unfold IntOp.minsi
  split
  · rw [BitVec.toNat_ofNat]; omega
  · rename_i hs
    rw [BitVec.slt_iff_toInt_lt, hI n (by omega), hI ((v.toNat - 1) / 2048) (by omega)] at hs
    rw [BitVec.toNat_ofNat]; omega

theorem coords0 (t : Fin grid0.N) : (grid0.coords t 0).val = t.val := by
  rw [Pipeline.Grid.coords_val t 0 (S := 1) (B := 49) (by decide) (by decide)]
  have := t.isLt
  have h : grid0.N = 49 := N_0
  omega

end Cert.KernelIdeal.Clean

end
-- ==== Proof.KernelIdeal.Body.lean ====
/- The kernel body of the decoding and pooling call, written over its own block structure: a point of the grid works
   on 2048 slots, eight steps of 256 slots each, a step in eight quarters of 32 slots.  The printed body is this
   program, by definitional unfolding. -/
module

public import proofs.«01_k».proof.Proof.Gen.KernelIdeal.Skeleton

@[expose] public section

noncomputable section

namespace Cert.KernelIdeal.Clean

open Idealize.ShloMosaic Idealize.SL.Sem Cert.KernelIdeal Cert.KernelIdeal.Gen

variable {F : FTy → Type} [FloatOps F]

/-! ## The values -/

/-- The lane number. -/
def lane : IVec S8x128 32 := iota .tc S8x128 32 [1] iota_S8x128_d1_w32

/-- The scale words of step `t`, those of slots past the last zeroed, read as bf16: rows 0–7 are the scales of the
    step's first 128 slots, rows 8–15 those of its last. -/
def scalesOf (left : BitVec 32) (t : Nat) (z : Vec F S8x128 .i32) : FVec F S16x128 .bf16 :=
  bitcastToFloat .bf16 (bitcast S16x128 16
    (select (cmpi .slt
        (addi (addi (broadcast S8x128 (BitVec.ofNat 32 (256 * t)))
          (muli (shrsi (iota .tc S8x128 32 [0] iota_S8x128_d0_w32) (broadcast S8x128 2#32)) (broadcast S8x128 128#32))) lane)
        (broadcast S8x128 left)) z (broadcast S8x128 0#32) : Vec F S8x128 .i32)
    bitcasts_S8x128_w32_S16x128_w16)

theorem slices_h (h : Fin 2) : S16x128.Slices ![8 * h.val, 0] S8x128 := by revert h; decide

/-- The scales of 128 slots spread over the 256 columns. -/
def spread (h : Fin 2) (zb : FVec F S16x128 .bf16) : FVec F S128x256 .bf16 :=
  truncf .bf16 (matmul dot_S8x128_S8x256_S128x256_0_0_1_1_n_n none
    (extractStridedSlice S8x128 ![8 * h.val, 0] zb (slices_h h)) (k0_pay6 (F := F))
    (constant S128x256 .f32 0x00000000#32)) bitsLt_bf16_f32

theorem slices_c (c : Fin 4) (hf : Fin 2) : S128x256.Slices ![32 * c.val, 128 * hf.val] S32x128 := by
  revert c hf; decide

/-- Half `hf` of the columns of 32 decoded rows. -/
def half (hf : Fin 2) (c : Fin 4) (sc : FVec F S128x256 .bf16) (w : Vec F S8x128 .i32) : FVec F S32x128 .bf16 :=
  have j : IVec S8x128 32 := addi (broadcast S8x128 (BitVec.ofNat 32 (64 * hf.val))) (shrsi lane (broadcast S8x128 1#32))
  have j' : IVec S8x128 32 := select (cmpi .slt j (broadcast S8x128 0#32)) (addi j (broadcast S8x128 128#32)) j
  have x : IVec S8x128 32 := dynamicGather 1 w (shapeCast S8x128 (shapeCast S8x128x1 j' shapeCasts_S8x128_S8x128x1) shapeCasts_S8x128x1_S8x128)
  have y : IVec S8x128 32 := andi (shli x k0_pay5) (broadcast S8x128 4042322160#32)
  mulf (mulf (sitofp .bf16 (bitcast S32x128 8 y bitcasts_S8x128_w32_S32x128_w8))
      (broadcast S32x128 (Scalar.ofBits .bf16 0x3D80#16)))
    (extractStridedSlice S32x128 ![32 * c.val, 128 * hf.val] sc (slices_c c hf))

/-- 32 decoded rows. -/
def rows32 (c : Fin 4) (sc : FVec F S128x256 .bf16) (w : Vec F S8x128 .i32) : FVec F S32x256 .bf16 :=
  concatenate S32x256 1 [⟨S32x128, half 0 c sc w⟩, ⟨S32x128, half 1 c sc w⟩] concatenates_S32x128_S32x128_S32x256_d1

/-- The counts of 128 slots, those of slots past the last zeroed: low bytes above, the rest below. -/
def counts (left : BitVec 32) (j : Nat) (b : Vec F S2x1x8x128 .i32) : IVec S32x128 32 :=
  have n : IVec S16x128 32 := select (cmpi .slt
      (addi (broadcast S16x128 (BitVec.ofNat 32 (128 * j))) (iota .tc S16x128 32 [1] iota_S16x128_d1_w32))
      (broadcast S16x128 left))
    (shapeCast S16x128 (shapeCast S2x8x128 (b : IVec S2x1x8x128 32) shapeCasts_S2x1x8x128_S2x8x128) shapeCasts_S2x8x128_S16x128)
    (broadcast S16x128 0#32)
  concatenate S32x128 0 [⟨S16x128, andi n (broadcast S16x128 255#32)⟩, ⟨S16x128, shrsi n (broadcast S16x128 8#32)⟩]
    concatenates_S16x128_S16x128_S32x128_d0

/-- The 256 decoded rows of a step. -/
def rows256 (r0 r1 r2 r3 r4 r5 r6 r7 : FVec F S32x256 .bf16) : FVec F S256x256 .bf16 :=
  concatenate S256x256 0 [⟨S32x256, r0⟩, ⟨S32x256, r1⟩, ⟨S32x256, r2⟩, ⟨S32x256, r3⟩, ⟨S32x256, r4⟩, ⟨S32x256, r5⟩, ⟨S32x256, r6⟩, ⟨S32x256, r7⟩]
    concatenates_S32x256_S32x256_S32x256_S32x256_S32x256_S32x256_S32x256_S32x256_S256x256_d0

/-- A step's sums, onto those of the steps before. -/
def sums (acc : FVec F S32x256 .f32) (n0 n1 : IVec S32x128 32) (r : FVec F S256x256 .bf16) : FVec F S32x256 .f32 :=
  addf acc (matmul dot_S32x256_S256x256_S32x256_1_0_0_1_n_n none
    (truncf .bf16 (sitofp .f32 (concatenate S32x256 1 [⟨S32x128, n0⟩, ⟨S32x128, n1⟩] concatenates_S32x128_S32x128_S32x256_d1)) bitsLt_bf16_f32)
    r (constant S32x256 .f32 0x00000000#32))

/-! ## The program -/

theorem inb_q (n : Fin 64) : ∀ a, (![8 * n.val, 0] : Fin 2 → Nat) a + S8x128.size a ≤ S512x128.size a := by revert n; decide
theorem inb_r (n : Fin 64) : ∀ a, (![32 * n.val, 0] : Fin 2 → Nat) a + S32x256.size a ≤ S2048x256.size a := by revert n; decide
theorem packed_r (n : Fin 64) : (Rect.unit (s := S2048x256) ![32 * n.val, 0] S32x256.size (inb_r n)).PackedRows (EltTy.packing .bf16) := by
  revert n; decide
theorem inb_z (t : Fin 8) : ∀ a, (![8 * t.val, 0] : Fin 2 → Nat) a + S8x128.size a ≤ S64x128.size a := by revert t; decide
theorem inb_b (j : Fin 16) : ∀ a, (![0, j.val, 0, 0] : Fin 4 → Nat) a + S2x1x8x128.size a ≤ S2x16x8x128.size a := by revert j; decide

variable (arg2 : Memref sig .tc .vmem S512x128 .i32) (arg3 : Memref sig .tc .vmem S64x128 .i32)
  (arg4 : Memref sig .tc .vmem S2x16x8x128 .i32) (arg5 : Memref sig .tc .vmem S2048x256 .bf16) (harg5 : arg5.IsWhole)
  (arg6 : Memref sig .tc .vmem S16x256 .f32)

/-- Quarter `n` of the block: 32 rows decoded and stored. -/
def quarter (n : Fin 64) (c : Fin 4) (sc : FVec F S128x256 .bf16) :
    Prog (TpuEff nD τ sig (Elt F) Λ₀ .tc) (FVec F S32x256 .bf16) := do
  let w : Vec F S8x128 .i32 ← Prog.lift (.load arg2 (Rect.unit (s := S512x128) ![8 * n.val, 0] S8x128.size (inb_q n)).toLoadRect (View.loadsAt_vmem h_S8x128))
  let _v : Vec F S32x256 .bf16 ← Prog.lift (.load arg5 (Rect.unit (s := S2048x256) ![32 * n.val, 0] S32x256.size (inb_r n)).toLoadRect (View.loadsAt_vmem h_S32x256))
  Prog.lift (.store arg5 (Rect.unit (s := S2048x256) ![32 * n.val, 0] S32x256.size (inb_r n)) (rows32 c sc w) Finset.univ (View.stores_vmem h_S32x256 (harg5.storeExact_slice rfl _ (packed_r n)) (fun _ => rfl)) (.inl rfl))
  pure (rows32 c sc w)

/-- Step `t`: 256 rows decoded and stored, and their share of the pooled sums. -/
def step (left : BitVec 32) (t : Fin 8) (acc : FVec F S32x256 .f32) :
    Prog (TpuEff nD τ sig (Elt F) Λ₀ .tc) (FVec F S32x256 .f32) := do
  let z : Vec F S8x128 .i32 ← Prog.lift (.load arg3 (Rect.unit (s := S64x128) ![8 * t.val, 0] S8x128.size (inb_z t)).toLoadRect (View.loadsAt_vmem h_S8x128))
  let r0 ← quarter arg2 arg5 harg5 ⟨8 * t.val, by omega⟩ 0 (spread 0 (scalesOf left t.val z))
  let r1 ← quarter arg2 arg5 harg5 ⟨8 * t.val + 1, by omega⟩ 1 (spread 0 (scalesOf left t.val z))
  let r2 ← quarter arg2 arg5 harg5 ⟨8 * t.val + 2, by omega⟩ 2 (spread 0 (scalesOf left t.val z))
  let r3 ← quarter arg2 arg5 harg5 ⟨8 * t.val + 3, by omega⟩ 3 (spread 0 (scalesOf left t.val z))
  let b0 : Vec F S2x1x8x128 .i32 ← Prog.lift (.load arg4 (Rect.unit (s := S2x16x8x128) ![0, 2 * t.val, 0, 0] S2x1x8x128.size (inb_b ⟨2 * t.val, by omega⟩)).toLoadRect (View.loadsAt_vmem h_S2x1x8x128))
  let r4 ← quarter arg2 arg5 harg5 ⟨8 * t.val + 4, by omega⟩ 0 (spread 1 (scalesOf left t.val z))
  let r5 ← quarter arg2 arg5 harg5 ⟨8 * t.val + 5, by omega⟩ 1 (spread 1 (scalesOf left t.val z))
  let r6 ← quarter arg2 arg5 harg5 ⟨8 * t.val + 6, by omega⟩ 2 (spread 1 (scalesOf left t.val z))
  let r7 ← quarter arg2 arg5 harg5 ⟨8 * t.val + 7, by omega⟩ 3 (spread 1 (scalesOf left t.val z))
  let b1 : Vec F S2x1x8x128 .i32 ← Prog.lift (.load arg4 (Rect.unit (s := S2x16x8x128) ![0, 2 * t.val + 1, 0, 0] S2x1x8x128.size (inb_b ⟨2 * t.val + 1, by omega⟩)).toLoadRect (View.loadsAt_vmem h_S2x1x8x128))
  pure (sums acc (counts (F := F) left (2 * t.val) b0) (counts (F := F) left (2 * t.val + 1) b1) (rows256 r0 r1 r2 r3 r4 r5 r6 r7))

/-- The live branch up to its sums. -/
def steps (left : BitVec 32) : Prog (TpuEff nD τ sig (Elt F) Λ₀ .tc) (FVec F S32x256 .f32) := do
  let acc ← step arg2 arg3 arg4 arg5 harg5 left 0 (k0_pay7 (F := F))
  let acc ← step arg2 arg3 arg4 arg5 harg5 left 1 acc
  let acc ← step arg2 arg3 arg4 arg5 harg5 left 2 acc
  let acc ← step arg2 arg3 arg4 arg5 harg5 left 3 acc
  let acc ← step arg2 arg3 arg4 arg5 harg5 left 4 acc
  let acc ← step arg2 arg3 arg4 arg5 harg5 left 5 acc
  let acc ← step arg2 arg3 arg4 arg5 harg5 left 6 acc
  step arg2 arg3 arg4 arg5 harg5 left 7 acc

/-- What the sums of a block add to the pooled sums: the low bytes' sums and 256 times the others'. -/
def fold (acc : FVec F S32x256 .f32) (pool : Vec F S16x256 .f32) : FVec F S16x256 .f32 :=
  addf (shapeCast S16x256 (pool : FVec F S16x256 .f32) shapeCasts_S16x256_S16x256) (addf (extractStridedSlice S16x256 ![0, 0] acc slices_S32x256_o0_0_S16x256)
    (mulf (broadcast S16x256 (Scalar.ofBits .f32 0x43800000#32)) (extractStridedSlice S16x256 ![16, 0] acc slices_S32x256_o16_0_S16x256)))

/-- At the grid's first point the pooled sums are zeroed. -/
def zeroPool (i : grid0.Coords) : Prog (TpuEff nD τ sig (Elt F) Λ₀ .tc) PUnit :=
  if k0_h1 : k0_cond1 i = 1#1 then do
    let _v : Vec F S16x256 .f32 ← Prog.lift (.load arg6 (Rect.unit (s := S16x256) ![0, 0] S16x256.size inb_S16x256_S16x256_0_0).toLoadRect (View.loadsAt_vmem h_S16x256))
    Prog.lift (.store arg6 (Rect.unit (s := S16x256) ![0, 0] S16x256.size inb_S16x256_S16x256_0_0) (k0_pay1 (F := F)) Finset.univ (View.stores_vmem_bits_univ h_S16x256 rfl) (.inl rfl))
    pure ⟨⟩
  else do
    pure ⟨⟩

/-- At a point past the last row the block's rows are zeroed. -/
def zeroRows (i : grid0.Coords) (v0 : BitVec 32) : Prog (TpuEff nD τ sig (Elt F) Λ₀ .tc) PUnit :=
  if k0_h2 : k0_cond2 i v0 = 1#1 then do
    let _v : Vec F S2048x256 .bf16 ← Prog.lift (.load arg5 (Rect.unit (s := S2048x256) ![0, 0] S2048x256.size inb_S2048x256_S2048x256_0_0).toLoadRect (View.loadsAt_vmem h_S2048x256))
    Prog.lift (.store arg5 (Rect.unit (s := S2048x256) ![0, 0] S2048x256.size inb_S2048x256_S2048x256_0_0) (k0_pay2 (F := F)) Finset.univ (View.stores_vmem h_S2048x256 (harg5.storeExact_slice rfl _ packedbf16_S2048x256_S2048x256_0_0) (fun _ => rfl)) (.inl rfl))
    pure ⟨⟩
  else do
    pure ⟨⟩

/-- When the block is not full, the rows of the slots past the last are zeroed. -/
def trimRows (i : grid0.Coords) (v0 : BitVec 32) : Prog (TpuEff nD τ sig (Elt F) Λ₀ .tc) PUnit :=
  if k0_h4 : k0_cond4 i v0 = 1#1 then do
    let r : Vec F S2048x256 .bf16 ← Prog.lift (.load arg5 (Rect.unit (s := S2048x256) ![0, 0] S2048x256.size inb_S2048x256_S2048x256_0_0).toLoadRect (View.loadsAt_vmem h_S2048x256))
    let _v : Vec F S2048x256 .bf16 ← Prog.lift (.load arg5 (Rect.unit (s := S2048x256) ![0, 0] S2048x256.size inb_S2048x256_S2048x256_0_0).toLoadRect (View.loadsAt_vmem h_S2048x256))
    Prog.lift (.store arg5 (Rect.unit (s := S2048x256) ![0, 0] S2048x256.size inb_S2048x256_S2048x256_0_0) (k0_pay4 (Scalar.subi v0 (Scalar.muli (BitVec.ofNat 32 (i 0).val) 2048#32)) r) Finset.univ (View.stores_vmem h_S2048x256 (harg5.storeExact_slice rfl _ packedbf16_S2048x256_S2048x256_0_0) (fun _ => rfl)) (.inl rfl))
    pure ⟨⟩
  else do
    pure ⟨⟩

/-- What a live point does: its eight steps, the pooled sums, and the rows of the slots past the last. -/
def live (i : grid0.Coords) (v0 : BitVec 32) : Prog (TpuEff nD τ sig (Elt F) Λ₀ .tc) PUnit := do
  let acc ← steps arg2 arg3 arg4 arg5 harg5 (Scalar.subi v0 (Scalar.muli (BitVec.ofNat 32 (i 0).val) 2048#32))
  let p : Vec F S16x256 .f32 ← Prog.lift (.load arg6 (Rect.unit (s := S16x256) ![0, 0] S16x256.size inb_S16x256_S16x256_0_0).toLoadRect (View.loadsAt_vmem h_S16x256))
  let _v : Vec F S16x256 .f32 ← Prog.lift (.load arg6 (Rect.unit (s := S16x256) ![0, 0] S16x256.size inb_S16x256_S16x256_0_0).toLoadRect (View.loadsAt_vmem h_S16x256))
  Prog.lift (.store arg6 (Rect.unit (s := S16x256) ![0, 0] S16x256.size inb_S16x256_S16x256_0_0) (fold acc p) Finset.univ (View.stores_vmem_bits_univ h_S16x256 rfl) (.inl rfl))
  trimRows arg5 harg5 i v0

/-- The whole body. -/
def body (i : grid0.Coords) (arg1 : Memref sig .tc .smem S16 .i32) : Prog (TpuEff nD τ sig (Elt F) Λ₀ .tc) PUnit := do
  let v0 : Elt F .i32 ← smemLoad arg1 (Rect.unit (s := S16) ![0] S1.size inb_S16_S1_0) numel1_S1 rfl
  zeroPool arg6 i
  zeroRows arg5 harg5 i v0
  if k0_h3 : k0_cond3 i v0 = 1#1 then do
    live arg2 arg3 arg4 arg5 harg5 arg6 i v0
  else do
    pure ⟨⟩

/-- The whole body, its conditionals written out. -/
def bodyFlat (i : grid0.Coords) (arg1 : Memref sig .tc .smem S16 .i32) : Prog (TpuEff nD τ sig (Elt F) Λ₀ .tc) PUnit := do
  let v0 : Elt F .i32 ← smemLoad arg1 (Rect.unit (s := S16) ![0] S1.size inb_S16_S1_0) numel1_S1 rfl
  if k0_h1 : k0_cond1 i = 1#1 then do
    let _v : Vec F S16x256 .f32 ← Prog.lift (.load arg6 (Rect.unit (s := S16x256) ![0, 0] S16x256.size inb_S16x256_S16x256_0_0).toLoadRect (View.loadsAt_vmem h_S16x256))
    Prog.lift (.store arg6 (Rect.unit (s := S16x256) ![0, 0] S16x256.size inb_S16x256_S16x256_0_0) (k0_pay1 (F := F)) Finset.univ (View.stores_vmem_bits_univ h_S16x256 rfl) (.inl rfl))
    pure ⟨⟩
  else do
    pure ⟨⟩
  if k0_h2 : k0_cond2 i v0 = 1#1 then do
    let _v : Vec F S2048x256 .bf16 ← Prog.lift (.load arg5 (Rect.unit (s := S2048x256) ![0, 0] S2048x256.size inb_S2048x256_S2048x256_0_0).toLoadRect (View.loadsAt_vmem h_S2048x256))
    Prog.lift (.store arg5 (Rect.unit (s := S2048x256) ![0, 0] S2048x256.size inb_S2048x256_S2048x256_0_0) (k0_pay2 (F := F)) Finset.univ (View.stores_vmem h_S2048x256 (harg5.storeExact_slice rfl _ packedbf16_S2048x256_S2048x256_0_0) (fun _ => rfl)) (.inl rfl))
    pure ⟨⟩
  else do
    pure ⟨⟩
  if k0_h3 : k0_cond3 i v0 = 1#1 then do
    live arg2 arg3 arg4 arg5 harg5 arg6 i v0
  else do
    pure ⟨⟩

theorem bodyFlat_eq (i : grid0.Coords) (arg1 : Memref sig .tc .smem S16 .i32) :
    bodyFlat (F := F) arg2 arg3 arg4 arg5 harg5 arg6 i arg1 = body arg2 arg3 arg4 arg5 harg5 arg6 i arg1 := by
  unfold bodyFlat body
  congr 1
  funext v0
  unfold zeroPool zeroRows
  by_cases h1 : k0_cond1 i = 1#1
  · rw [dif_pos h1, dif_pos h1]
    by_cases h2 : k0_cond2 i v0 = 1#1
    · rw [dif_pos h2, dif_pos h2]; rfl
    · rw [dif_neg h2, dif_neg h2]; rfl
  · rw [dif_neg h1, dif_neg h1]
    by_cases h2 : k0_cond2 i v0 = 1#1
    · rw [dif_pos h2, dif_pos h2]; rfl
    · rw [dif_neg h2, dif_neg h2]; rfl

end Cert.KernelIdeal.Clean

end
-- ==== Proof.KernelIdeal.BodyEq.lean ====
/- The printed body is the body written over its own block structure (Body.lean). -/
module

public import proofs.«01_k».proof.Proof.KernelIdeal.Body

@[expose] public section

noncomputable section

namespace Cert.KernelIdeal.Clean

open Idealize.ShloMosaic Idealize.SL.Sem Cert.KernelIdeal Cert.KernelIdeal.Gen

variable {F : FTy → Type} [FloatOps F]

set_option maxRecDepth 65536 in
set_option maxHeartbeats 0 in
/-- The printed body is `bodyFlat`, by unfolding, -/
theorem body_eq_flat (i : grid0.Coords) (arg1 : Memref sig .tc .smem S16 .i32) (harg1 : arg1.IsWhole)
    (arg2 : Memref sig .tc .vmem S512x128 .i32) (harg2 : arg2.IsWhole)
    (arg3 : Memref sig .tc .vmem S64x128 .i32) (harg3 : arg3.IsWhole)
    (arg4 : Memref sig .tc .vmem S2x16x8x128 .i32) (harg4 : arg4.IsWhole)
    (arg5 : Memref sig .tc .vmem S2048x256 .bf16) (harg5 : arg5.IsWhole)
    (arg6 : Memref sig .tc .vmem S16x256 .f32) (harg6 : arg6.IsWhole) :
    cc0_dequant_pool (F := F) i arg1 harg1 arg2 harg2 arg3 harg3 arg4 harg4 arg5 harg5 arg6 harg6
      = bodyFlat arg2 arg3 arg4 arg5 harg5 arg6 i arg1 := rfl

/-- and so `body`. -/
theorem body_eq (i : grid0.Coords) (arg1 : Memref sig .tc .smem S16 .i32) (harg1 : arg1.IsWhole)
    (arg2 : Memref sig .tc .vmem S512x128 .i32) (harg2 : arg2.IsWhole)
    (arg3 : Memref sig .tc .vmem S64x128 .i32) (harg3 : arg3.IsWhole)
    (arg4 : Memref sig .tc .vmem S2x16x8x128 .i32) (harg4 : arg4.IsWhole)
    (arg5 : Memref sig .tc .vmem S2048x256 .bf16) (harg5 : arg5.IsWhole)
    (arg6 : Memref sig .tc .vmem S16x256 .f32) (harg6 : arg6.IsWhole) :
    cc0_dequant_pool (F := F) i arg1 harg1 arg2 harg2 arg3 harg3 arg4 harg4 arg5 harg5 arg6 harg6
      = body arg2 arg3 arg4 arg5 harg5 arg6 i arg1 :=
  (body_eq_flat i arg1 harg1 arg2 harg2 arg3 harg3 arg4 harg4 arg5 harg5 arg6 harg6).trans (bodyFlat_eq arg2 arg3 arg4 arg5 harg5 arg6 i arg1)

end Cert.KernelIdeal.Clean

end
-- ==== Proof.KernelIdeal.Run.lean ====
/- The body of the decoding and pooling call, run: what a quarter, a step and a whole point leave in the two results'
   staging buffers, from the blocks of the three inputs and the count of distinct rows. -/
module

public import proofs.«01_k».proof.Proof.KernelIdeal.Body
public import proofs.«01_k».proof.Proof.KernelIdeal.Frame
public import Idealize.ShloMosaic.Lib.Pipeline.Value

@[expose] public section

noncomputable section

namespace Cert.KernelIdeal.Clean

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-! ## The values a point leaves, from its blocks -/

/-- The codes of quarter `n`. -/
def codesOf (W : Vec F S512x128 .i32) (n : Fin 64) : Vec F S8x128 .i32 :=
  View.ld W (Rect.unit (s := S512x128) ![8 * n.val, 0] S8x128.size (inb_q n))
/-- The scale words of step `t`. -/
def zOf (Z : Vec F S64x128 .i32) (t : Fin 8) : Vec F S8x128 .i32 :=
  View.ld Z (Rect.unit (s := S64x128) ![8 * t.val, 0] S8x128.size (inb_z t))
/-- The counts of 128 slots. -/
def bagOf (B : Vec F S2x16x8x128 .i32) (j : Fin 16) : Vec F S2x1x8x128 .i32 :=
  View.ld B (Rect.unit (s := S2x16x8x128) ![0, j.val, 0, 0] S2x1x8x128.size (inb_b j))

/-- The rows of quarter `4 * (2 * t + h) + c`. -/
def quarterRows (left : BitVec 32) (W : Vec F S512x128 .i32) (Z : Vec F S64x128 .i32) (n : Fin 64) : FVec F S32x256 .bf16 :=
  rows32 ⟨n.val % 4, by omega⟩ (spread ⟨n.val / 4 % 2, by omega⟩ (scalesOf left (n.val / 8) (zOf Z ⟨n.val / 8, by omega⟩))) (codesOf W n)

/-- All rows of a block, before the slots past the last are zeroed. -/
def rowsAll (left : BitVec 32) (W : Vec F S512x128 .i32) (Z : Vec F S64x128 .i32) : Vec F S2048x256 .bf16 := fun y =>
  quarterRows left W Z ⟨(y 0).val / 32, by have h : (y 0).val < 2048 := (y 0).isLt; omega⟩
    (fun a => match a with
      | ⟨0, _⟩ => ⟨(y 0).val % 32, by show _ < 32; omega⟩
      | ⟨1, _⟩ => y 1)

/-- What step `t` adds to the sums. -/
def stepSums (left : BitVec 32) (W : Vec F S512x128 .i32) (Z : Vec F S64x128 .i32) (B : Vec F S2x16x8x128 .i32) (t : Fin 8)
    (acc : FVec F S32x256 .f32) : FVec F S32x256 .f32 :=
  sums acc (counts (F := F) left (2 * t.val) (bagOf B ⟨2 * t.val, by omega⟩))
    (counts (F := F) left (2 * t.val + 1) (bagOf B ⟨2 * t.val + 1, by omega⟩))
    (rows256 (quarterRows left W Z ⟨8 * t.val, by omega⟩) (quarterRows left W Z ⟨8 * t.val + 1, by omega⟩)
      (quarterRows left W Z ⟨8 * t.val + 2, by omega⟩) (quarterRows left W Z ⟨8 * t.val + 3, by omega⟩)
      (quarterRows left W Z ⟨8 * t.val + 4, by omega⟩) (quarterRows left W Z ⟨8 * t.val + 5, by omega⟩)
      (quarterRows left W Z ⟨8 * t.val + 6, by omega⟩) (quarterRows left W Z ⟨8 * t.val + 7, by omega⟩))

/-- The sums after all eight steps. -/
def sumsAll (left : BitVec 32) (W : Vec F S512x128 .i32) (Z : Vec F S64x128 .i32) (B : Vec F S2x16x8x128 .i32) : FVec F S32x256 .f32 :=
  stepSums left W Z B 7 (stepSums left W Z B 6 (stepSums left W Z B 5 (stepSums left W Z B 4
    (stepSums left W Z B 3 (stepSums left W Z B 2 (stepSums left W Z B 1 (stepSums left W Z B 0 (k0_pay7 (F := F)))))))))

/-! ## Its run -/

variable (𝒱 : Variants) (c : Dev nD) (E : Set ℕ)
  (arg2 : Memref sig .tc .vmem S512x128 .i32) (arg3 : Memref sig .tc .vmem S64x128 .i32)
  (arg4 : Memref sig .tc .vmem S2x16x8x128 .i32) (arg5 : Memref sig .tc .vmem S2048x256 .bf16) (harg5 : arg5.IsWhole)
  (arg6 : Memref sig .tc .vmem S16x256 .f32)

/-- The rows' buffer, its first `32 * n` rows at `T`. -/
def rowsHeld (T : Vec F S2048x256 .bf16) (n : Nat) : sProp 𝕄 :=
  iprop(∃ d, ⌜∀ y : S2048x256.Idx, (y 0).val < 32 * n → d y = T y⌝ ∗ owns (c : Thread nD τ) arg5 fullShare d)

/-- The rows of quarter `n`, stored, reach the first `32 * (n + 1)` rows. -/
theorem stored_rows (T : Vec F S2048x256 .bf16) (n : Fin 64) (w : FVec F S32x256 .bf16) (g : arg5.view.ty.Contents (Elt F))
    (hw : ∀ y : S2048x256.Idx, ∀ h : (y 0).val / 32 = n.val, T y = w (fun a => match a with
      | ⟨0, _⟩ => ⟨(y 0).val % 32, by show _ < 32; omega⟩
      | ⟨1, _⟩ => y 1))
    (hd : ∀ y : S2048x256.Idx, (y 0).val < 32 * n.val → arg5.view.read (Elt F) g y = T y) :
    ∀ y : S2048x256.Idx, (y 0).val < 32 * (n.val + 1) →
      arg5.view.read (Elt F) (arg5.view.writes (Elt F) g [⟨Rect.unit (s := S2048x256) ![32 * n.val, 0] S32x256.size (inb_r n), w⟩]) y = T y := by
  intro y hy
  show arg5.view.read (Elt F) ((arg5.view.slice (Rect.unit (s := S2048x256) ![32 * n.val, 0] S32x256.size (inb_r n))).write (Elt F) g w Finset.univ) y = T y
  by_cases hlo : 32 * n.val ≤ (y 0).val
  · rw [hw y (by omega)]
    have hx : ∃ x, (Rect.unit (s := S2048x256) ![32 * n.val, 0] S32x256.size (inb_r n)).emb x = y
        ∧ x = (fun a => match a with
          | ⟨0, _⟩ => ⟨(y 0).val % 32, by show _ < 32; omega⟩
          | ⟨1, _⟩ => y 1 : S32x256.Idx) := by
      refine ⟨_, ?_, rfl⟩
      funext a
      apply Fin.ext
      match a with
      | ⟨0, _⟩ =>
        show 32 * n.val + 1 * ((y 0).val % 32) = (y 0).val
        omega
      | ⟨1, _⟩ =>
        show 0 + 1 * (y 1).val = (y 1).val
        omega
    obtain ⟨x, hx, hx'⟩ := hx
    rw [← hx', ← hx, View.read_slice_write_emb _ _ _ (Finset.mem_univ _)]
  · rw [View.read_slice_write_of_not_mem]
    · exact hd y (by omega)
    · rw [Rect.map_emb_univ]
      intro hm
      rw [← Rect.map_emb_univ] at hm
      obtain ⟨x, -, hx⟩ := Finset.mem_map.mp hm
      have := congrArg (fun z : S2048x256.Idx => (z 0).val) hx
      have h2 : 32 * n.val + 1 * (x 0).val = (y 0).val := this
      omega

theorem rowsAll_of (left : BitVec 32) (W : Vec F S512x128 .i32) (Z : Vec F S64x128 .i32) (n : Fin 64) (y : S2048x256.Idx)
    (h : (y 0).val / 32 = n.val) :
    rowsAll left W Z y = quarterRows left W Z n (fun a => match a with
      | ⟨0, _⟩ => ⟨(y 0).val % 32, by show _ < 32; omega⟩
      | ⟨1, _⟩ => y 1) := by
  unfold rowsAll
  congr 1
  exact Fin.ext h

/-- A quarter returns its rows and leaves them in the buffer. -/
theorem sound_quarter (left : BitVec 32) (W : Vec F S512x128 .i32) (Z : Vec F S64x128 .i32) (n : Fin 64) (cc : Fin 4) (sc : FVec F S128x256 .bf16)
    (hsc : rows32 cc sc (codesOf W n) = quarterRows left W Z n) :
    iprop(owns (c : Thread nD τ) arg2 fullShare W ∗ rowsHeld c arg5 (rowsAll left W Z) n.val)
      ⊢ wp frame (wpE (defs₀ (F := F)) 𝒱 c none) E (quarter arg2 arg5 harg5 n cc sc) (fun r =>
          iprop(⌜r = quarterRows left W Z n⌝ ∗ owns (c : Thread nD τ) arg2 fullShare W ∗ rowsHeld c arg5 (rowsAll left W Z) (n.val + 1))) := by
  unfold rowsHeld quarter owns
  iintro ⟨⟨%f, %hf, H2⟩, %d, %hd, %g, %hg, H5⟩
  sl_exec
  have hv : rows32 cc sc (View.readAt (Elt F) arg2.view (Rect.unit (s := S512x128) ![8 * n.val, 0] S8x128.size (inb_q n)).toLoadRect f)
      = quarterRows left W Z n := by
    rw [← hsc, ← hf]; rfl
  rw [hv]
  sl_step
  isplitr; · ipureintro; rfl
  isplitl [H2]
  · iexists f; isplitr; · ipureintro; exact hf
    iexact H2
  iexists _; isplitr
  swap
  · iexists _; isplitr
    swap; · iexact H5
    ipureintro; rfl
  ipureintro
  exact stored_rows arg5 _ n _ g (rowsAll_of left W Z n) (by rw [hg]; exact hd)

/-- The rows of the eight quarters of step `t`, as the step spells them. -/
theorem quarter_eq (left : BitVec 32) (W : Vec F S512x128 .i32) (Z : Vec F S64x128 .i32) (t : Fin 8) (h : Fin 2) (cc : Fin 4) (n : Fin 64)
    (hn : n.val = 8 * t.val + 4 * h.val + cc.val) :
    rows32 cc (spread h (scalesOf left t.val (zOf Z t))) (codesOf W n) = quarterRows left W Z n := by
  have H : ∀ (c' : Fin 4) (h' : Fin 2) (t' : Fin 8), c' = cc → h' = h → t' = t →
      rows32 cc (spread h (scalesOf left t.val (zOf Z t))) (codesOf W n) = rows32 c' (spread h' (scalesOf left t'.val (zOf Z t'))) (codesOf W n) := by
    rintro _ _ _ rfl rfl rfl; rfl
  exact H ⟨n.val % 4, by omega⟩ ⟨n.val / 4 % 2, by omega⟩ ⟨n.val / 8, by omega⟩
    (Fin.ext (by show n.val % 4 = cc.val; omega)) (Fin.ext (by show n.val / 4 % 2 = h.val; omega)) (Fin.ext (by show n.val / 8 = t.val; omega))

/-- A program that returns `v`, at the head of one that goes on from what it returns. -/
theorem seq {α β : Type} {P P' : sProp 𝕄} {p : Prog (TpuEff nD τ sig (Elt F) Λ₀ .tc) α} {v : α}
    {k : α → Prog (TpuEff nD τ sig (Elt F) Λ₀ .tc) β} {K : β → sProp 𝕄}
    (h : P ⊢ wp frame (wpE (defs₀ (F := F)) 𝒱 c none) E p (fun a => iprop(⌜a = v⌝ ∗ P'))) :
    P ⊢ iprop((P' -∗ wp frame (wpE (defs₀ (F := F)) 𝒱 c none) E (k v) K) -∗ wp frame (wpE (defs₀ (F := F)) 𝒱 c none) E (p >>= k) K) := by
  rw [wp_bind]
  iintro H0 Hk
  ihave H := (h.trans (wp_wand _ _ _ (Q' := fun a => wp frame (wpE (defs₀ (F := F)) 𝒱 c none) E (k a) K))) $$ [H0]
  · iexact H0
  iapply H
  iintro %a ⟨%ha, HP⟩
  subst ha
  iapply Hk
  iexact HP

/-- A load of a window's buffer held at `X`. -/
theorem sound_load {S : Shape} {e : EltTy} (M : Memref sig .tc .vmem S e) (X : S.Idx → Elt F e) (r : Rect S) (hl : M.view.LoadsAt r.toLoadRect) :
    (owns (c : Thread nD τ) M fullShare X : sProp 𝕄) ⊢ wp frame (wpE (defs₀ (F := F)) 𝒱 c none) E (Prog.lift (.load M r.toLoadRect hl))
      (fun v => iprop(⌜v = View.ld X r⌝ ∗ owns (c : Thread nD τ) M fullShare X)) := by
  unfold owns
  iintro ⟨%f, %hf, H⟩
  sl_exec
  sl_step
  isplitr
  · ipureintro; rw [← hf]; rfl
  iexists f; isplitr; · ipureintro; exact hf
  iexact H

/-- A step leaves its rows in the buffer and returns its sums onto those handed to it. -/
theorem sound_step (left : BitVec 32) (W : Vec F S512x128 .i32) (Z : Vec F S64x128 .i32) (B : Vec F S2x16x8x128 .i32) (t : Fin 8)
    (acc : FVec F S32x256 .f32) :
    iprop(owns (c : Thread nD τ) arg2 fullShare W ∗ owns (c : Thread nD τ) arg3 fullShare Z ∗ owns (c : Thread nD τ) arg4 fullShare B
        ∗ rowsHeld c arg5 (rowsAll left W Z) (8 * t.val))
      ⊢ wp frame (wpE (defs₀ (F := F)) 𝒱 c none) E (step arg2 arg3 arg4 arg5 harg5 left t acc) (fun r =>
          iprop(⌜r = stepSums left W Z B t acc⌝ ∗ owns (c : Thread nD τ) arg2 fullShare W ∗ owns (c : Thread nD τ) arg3 fullShare Z
            ∗ owns (c : Thread nD τ) arg4 fullShare B ∗ rowsHeld c arg5 (rowsAll left W Z) (8 * (t.val + 1)))) := by
  have Q := fun n h cc hn => sound_quarter 𝒱 c E arg2 arg5 harg5 left W Z n cc _ (quarter_eq left W Z t h cc n hn)
  unfold step
  iintro ⟨H2, H3, H4, H5⟩
  iapply (seq 𝒱 c E (sound_load 𝒱 c E arg3 Z _ _)) $$ [H3]
  · iexact H3
  iintro H3
  iapply (seq 𝒱 c E (Q _ 0 0 (by simp))) $$ [H2 H5]
  · isplitl [H2]; · iexact H2
    iexact H5
  iintro ⟨H2, H5⟩
  iapply (seq 𝒱 c E (Q _ 0 1 (by simp))) $$ [H2 H5]
  · isplitl [H2]; · iexact H2
    iexact H5
  iintro ⟨H2, H5⟩
  iapply (seq 𝒱 c E (Q _ 0 2 (by simp))) $$ [H2 H5]
  · isplitl [H2]; · iexact H2
    iexact H5
  iintro ⟨H2, H5⟩
  iapply (seq 𝒱 c E (Q _ 0 3 (by simp))) $$ [H2 H5]
  · isplitl [H2]; · iexact H2
    iexact H5
  iintro ⟨H2, H5⟩
  iapply (seq 𝒱 c E (sound_load 𝒱 c E arg4 B _ _)) $$ [H4]
  · iexact H4
  iintro H4
  iapply (seq 𝒱 c E (Q _ 1 0 (by simp))) $$ [H2 H5]
  · isplitl [H2]; · iexact H2
    iexact H5
  iintro ⟨H2, H5⟩
  iapply (seq 𝒱 c E (Q _ 1 1 (by simp))) $$ [H2 H5]
  · isplitl [H2]; · iexact H2
    iexact H5
  iintro ⟨H2, H5⟩
  iapply (seq 𝒱 c E (Q _ 1 2 (by simp))) $$ [H2 H5]
  · isplitl [H2]; · iexact H2
    iexact H5
  iintro ⟨H2, H5⟩
  iapply (seq 𝒱 c E (Q _ 1 3 (by simp))) $$ [H2 H5]
  · isplitl [H2]; · iexact H2
    iexact H5
  iintro ⟨H2, H5⟩
  iapply (seq 𝒱 c E (sound_load 𝒱 c E arg4 B _ _)) $$ [H4]
  · iexact H4
  iintro H4
  rw [wp_pure]; imodintro
  isplitr; · ipureintro; rfl
  isplitl [H2]; · iexact H2
  isplitl [H3]; · iexact H3
  isplitl [H4]; · iexact H4
  iexact H5

/-- The eight steps leave all the rows in the buffer and return all the sums. -/
theorem sound_steps (left : BitVec 32) (W : Vec F S512x128 .i32) (Z : Vec F S64x128 .i32) (B : Vec F S2x16x8x128 .i32) :
    (iprop(owns (c : Thread nD τ) arg2 fullShare W ∗ owns (c : Thread nD τ) arg3 fullShare Z ∗ owns (c : Thread nD τ) arg4 fullShare B
        ∗ ∃ d, owns (c : Thread nD τ) arg5 fullShare d) : sProp 𝕄)
      ⊢ wp frame (wpE (defs₀ (F := F)) 𝒱 c none) E (steps arg2 arg3 arg4 arg5 harg5 left) (fun r =>
          iprop(⌜r = sumsAll left W Z B⌝ ∗ owns (c : Thread nD τ) arg2 fullShare W ∗ owns (c : Thread nD τ) arg3 fullShare Z
            ∗ owns (c : Thread nD τ) arg4 fullShare B ∗ owns (c : Thread nD τ) arg5 fullShare (rowsAll left W Z))) := by
  unfold steps
  iintro ⟨H2, H3, H4, %d, H5⟩
  have S := fun t acc => sound_step 𝒱 c E arg2 arg3 arg4 arg5 harg5 left W Z B t acc
  have h0 : (owns (c : Thread nD τ) arg5 fullShare d : sProp 𝕄) ⊢ rowsHeld c arg5 (rowsAll left W Z) (8 * (0 : Fin 8).val) := by
    unfold rowsHeld
    iintro H5
    iexists d; isplitr
    · ipureintro; intro y hy; exact absurd hy (by simp)
    iexact H5
  ihave H5 := h0 $$ [H5]
  · iexact H5
  iapply (seq 𝒱 c E (S 0 _)) $$ [H2 H3 H4 H5]
  · isplitl [H2]; · iexact H2
    isplitl [H3]; · iexact H3
    isplitl [H4]; · iexact H4
    iexact H5
  iintro H
  iapply (seq 𝒱 c E (S 1 _)) $$ [H]
  · iexact H
  iintro H
  iapply (seq 𝒱 c E (S 2 _)) $$ [H]
  · iexact H
  iintro H
  iapply (seq 𝒱 c E (S 3 _)) $$ [H]
  · iexact H
  iintro H
  iapply (seq 𝒱 c E (S 4 _)) $$ [H]
  · iexact H
  iintro H
  iapply (seq 𝒱 c E (S 5 _)) $$ [H]
  · iexact H
  iintro H
  iapply (seq 𝒱 c E (S 6 _)) $$ [H]
  · iexact H
  iintro H
  refine (S 7 _).trans (wp_mono _ _ _ fun r => ?_)
  unfold rowsHeld
  iintro ⟨%hr, H2, H3, H4, %d, %hd, H5⟩
  obtain rfl : d = rowsAll left W Z := funext fun y => hd y (by have h : (y 0).val < 2048 := (y 0).isLt; simp; omega)
  isplitr; · ipureintro; exact hr
  isplitl [H2]; · iexact H2
  isplitl [H3]; · iexact H3
  isplitl [H4]; · iexact H4
  iexact H5

/-- A store over the whole of a window's buffer. -/
theorem sound_store {S : Shape} {e : EltTy} (M : Memref sig .tc .vmem S e) (X w : S.Idx → Elt F e) {off : Fin S.rank → Nat}
    (hoff : ∀ a, off a = 0) (inb : ∀ a, off a + S.size a ≤ S.size a) {hx} {hm} :
    (owns (c : Thread nD τ) M fullShare X : sProp 𝕄) ⊢ wp frame (wpE (defs₀ (F := F)) 𝒱 c none) E
        (Prog.lift (.store M (Rect.unit (s := S) off S.size inb) w Finset.univ hx hm))
      (fun v => iprop(⌜v = ⟨⟩⌝ ∗ owns (c : Thread nD τ) M fullShare w)) := by
  unfold owns
  iintro ⟨%f, %hf, H⟩
  sl_exec
  sl_step
  isplitr
  · ipureintro; rfl
  iexists _; isplitr
  swap; · iexact H
  ipureintro
  funext y
  show M.view.read (Elt F) ((M.view.slice (Rect.unit (s := S) off S.size inb)).write (Elt F) f w Finset.univ) y = w y
  have hy : (Rect.unit (s := S) off S.size inb).emb y = y := by
    funext a; apply Fin.ext
    show off a + 1 * (y a).val = (y a).val
    rw [hoff a]; omega
  conv_lhs => rw [← hy]
  rw [View.read_slice_write_emb _ _ _ (Finset.mem_univ _)]

theorem off2 : ∀ a, (![0, 0] : Fin 2 → Nat) a = 0 := by decide

/-- The rows a block leaves: zero past the last row's block, else the decoded rows, those past the last zeroed. -/
def blockRows (i : grid0.Coords) (v0 : BitVec 32) (W : Vec F S512x128 .i32) (Z : Vec F S64x128 .i32) : Vec F S2048x256 .bf16 :=
  if k0_cond3 i v0 = 1#1 then
    if k0_cond4 i v0 = 1#1 then
      k0_pay4 (Scalar.subi v0 (Scalar.muli (BitVec.ofNat 32 (i 0).val) 2048#32)) (rowsAll (Scalar.subi v0 (Scalar.muli (BitVec.ofNat 32 (i 0).val) 2048#32)) W Z)
    else rowsAll (Scalar.subi v0 (Scalar.muli (BitVec.ofNat 32 (i 0).val) 2048#32)) W Z
  else k0_pay2 (F := F)

/-- The pooled sums after a point, from those before it. -/
def poolNext (i : grid0.Coords) (v0 : BitVec 32) (W : Vec F S512x128 .i32) (Z : Vec F S64x128 .i32) (B : Vec F S2x16x8x128 .i32)
    (X : Vec F S16x256 .f32) : Vec F S16x256 .f32 :=
  if k0_cond3 i v0 = 1#1 then
    fold (sumsAll (Scalar.subi v0 (Scalar.muli (BitVec.ofNat 32 (i 0).val) 2048#32)) W Z B) (if k0_cond1 i = 1#1 then k0_pay1 (F := F) else X)
  else if k0_cond1 i = 1#1 then k0_pay1 (F := F) else X

theorem sound_zeroPool (i : grid0.Coords) (X : Vec F S16x256 .f32) :
    (owns (c : Thread nD τ) arg6 fullShare X : sProp 𝕄) ⊢ wp frame (wpE (defs₀ (F := F)) 𝒱 c none) E (zeroPool arg6 i)
      (fun v => iprop(⌜v = ⟨⟩⌝ ∗ owns (c : Thread nD τ) arg6 fullShare (if k0_cond1 i = 1#1 then k0_pay1 (F := F) else X))) := by
  unfold zeroPool
  by_cases h : k0_cond1 i = 1#1
  · rw [dif_pos h, if_pos h]
    iintro H
    iapply (seq 𝒱 c E (sound_load 𝒱 c E arg6 X _ _)) $$ [H]
    · iexact H
    iintro H
    iapply (seq 𝒱 c E (sound_store 𝒱 c E arg6 X _ off2 _)) $$ [H]
    · iexact H
    iintro H
    rw [wp_pure]; imodintro
    isplitr; · ipureintro; rfl
    iexact H
  · rw [dif_neg h, if_neg h]
    iintro H
    rw [wp_pure]; imodintro
    isplitr; · ipureintro; rfl
    iexact H

theorem sound_zeroRows (i : grid0.Coords) (v0 : BitVec 32) (X : Vec F S2048x256 .bf16) :
    (owns (c : Thread nD τ) arg5 fullShare X : sProp 𝕄) ⊢ wp frame (wpE (defs₀ (F := F)) 𝒱 c none) E (zeroRows arg5 harg5 i v0)
      (fun v => iprop(⌜v = ⟨⟩⌝ ∗ owns (c : Thread nD τ) arg5 fullShare (if k0_cond2 i v0 = 1#1 then k0_pay2 (F := F) else X))) := by
  unfold zeroRows
  by_cases h : k0_cond2 i v0 = 1#1
  · rw [dif_pos h, if_pos h]
    iintro H
    iapply (seq 𝒱 c E (sound_load 𝒱 c E arg5 X _ _)) $$ [H]
    · iexact H
    iintro H
    iapply (seq 𝒱 c E (sound_store 𝒱 c E arg5 X _ off2 _)) $$ [H]
    · iexact H
    iintro H
    rw [wp_pure]; imodintro
    isplitr; · ipureintro; rfl
    iexact H
  · rw [dif_neg h, if_neg h]
    iintro H
    rw [wp_pure]; imodintro
    isplitr; · ipureintro; rfl
    iexact H

theorem sound_trimRows (i : grid0.Coords) (v0 : BitVec 32) (X : Vec F S2048x256 .bf16) :
    (owns (c : Thread nD τ) arg5 fullShare X : sProp 𝕄) ⊢ wp frame (wpE (defs₀ (F := F)) 𝒱 c none) E (trimRows arg5 harg5 i v0)
      (fun v => iprop(⌜v = ⟨⟩⌝ ∗ owns (c : Thread nD τ) arg5 fullShare
        (if k0_cond4 i v0 = 1#1 then k0_pay4 (Scalar.subi v0 (Scalar.muli (BitVec.ofNat 32 (i 0).val) 2048#32)) X else X))) := by
  unfold trimRows
  by_cases h : k0_cond4 i v0 = 1#1
  · rw [dif_pos h, if_pos h]
    iintro H
    iapply (seq 𝒱 c E (sound_load 𝒱 c E arg5 X _ _)) $$ [H]
    · iexact H
    iintro H
    iapply (seq 𝒱 c E (sound_load 𝒱 c E arg5 X _ _)) $$ [H]
    · iexact H
    iintro H
    rw [View.ld_unit_zero (S := S2048x256) (funext off2)]
    iapply (seq 𝒱 c E (sound_store 𝒱 c E arg5 X _ off2 _)) $$ [H]
    · iexact H
    iintro H
    rw [wp_pure]; imodintro
    isplitr; · ipureintro; rfl
    iexact H
  · rw [dif_neg h, if_neg h]
    iintro H
    rw [wp_pure]; imodintro
    isplitr; · ipureintro; rfl
    iexact H

/-- A live point's run. -/
theorem sound_live (i : grid0.Coords) (v0 : BitVec 32) (W : Vec F S512x128 .i32) (Z : Vec F S64x128 .i32) (B : Vec F S2x16x8x128 .i32)
    (D : Vec F S2048x256 .bf16) (X : Vec F S16x256 .f32) :
    (iprop(owns (c : Thread nD τ) arg2 fullShare W ∗ owns (c : Thread nD τ) arg3 fullShare Z ∗ owns (c : Thread nD τ) arg4 fullShare B
        ∗ owns (c : Thread nD τ) arg5 fullShare D ∗ owns (c : Thread nD τ) arg6 fullShare X) : sProp 𝕄)
      ⊢ wp frame (wpE (defs₀ (F := F)) 𝒱 c none) E (live arg2 arg3 arg4 arg5 harg5 arg6 i v0) (fun _ =>
          iprop(owns (c : Thread nD τ) arg2 fullShare W ∗ owns (c : Thread nD τ) arg3 fullShare Z
            ∗ owns (c : Thread nD τ) arg4 fullShare B
            ∗ owns (c : Thread nD τ) arg5 fullShare (if k0_cond4 i v0 = 1#1 then
                k0_pay4 (Scalar.subi v0 (Scalar.muli (BitVec.ofNat 32 (i 0).val) 2048#32)) (rowsAll (Scalar.subi v0 (Scalar.muli (BitVec.ofNat 32 (i 0).val) 2048#32)) W Z)
              else rowsAll (Scalar.subi v0 (Scalar.muli (BitVec.ofNat 32 (i 0).val) 2048#32)) W Z)
            ∗ owns (c : Thread nD τ) arg6 fullShare (fold (sumsAll (Scalar.subi v0 (Scalar.muli (BitVec.ofNat 32 (i 0).val) 2048#32)) W Z B) X))) := by
  unfold live
  iintro ⟨H2, H3, H4, H5, H6⟩
  iapply (seq 𝒱 c E (sound_steps 𝒱 c E arg2 arg3 arg4 arg5 harg5 _ W Z B)) $$ [H2 H3 H4 H5]
  · isplitl [H2]; · iexact H2
    isplitl [H3]; · iexact H3
    isplitl [H4]; · iexact H4
    iexists D; iexact H5
  iintro ⟨H2, H3, H4, H5⟩
  iapply (seq 𝒱 c E (sound_load 𝒱 c E arg6 X _ _)) $$ [H6]
  · iexact H6
  iintro H6
  iapply (seq 𝒱 c E (sound_load 𝒱 c E arg6 X _ _)) $$ [H6]
  · iexact H6
  iintro H6
  rw [View.ld_unit_zero (S := S16x256) (funext off2)]
  iapply (seq 𝒱 c E (sound_store 𝒱 c E arg6 X _ off2 _)) $$ [H6]
  · iexact H6
  iintro H6
  ihave H := ((sound_trimRows 𝒱 c E arg5 harg5 i v0 _).trans (wp_wand _ _ _ (Q' := fun _ =>
      iprop(owns (c : Thread nD τ) arg2 fullShare W ∗ owns (c : Thread nD τ) arg3 fullShare Z
            ∗ owns (c : Thread nD τ) arg4 fullShare B
            ∗ owns (c : Thread nD τ) arg5 fullShare (if k0_cond4 i v0 = 1#1 then
                k0_pay4 (Scalar.subi v0 (Scalar.muli (BitVec.ofNat 32 (i 0).val) 2048#32)) (rowsAll (Scalar.subi v0 (Scalar.muli (BitVec.ofNat 32 (i 0).val) 2048#32)) W Z)
              else rowsAll (Scalar.subi v0 (Scalar.muli (BitVec.ofNat 32 (i 0).val) 2048#32)) W Z)
            ∗ owns (c : Thread nD τ) arg6 fullShare (fold (sumsAll (Scalar.subi v0 (Scalar.muli (BitVec.ofNat 32 (i 0).val) 2048#32)) W Z B) X))))) $$ [H5]
  · iexact H5
  iapply H
  iintro %a ⟨%ha, H5⟩
  isplitl [H2]; · iexact H2
  isplitl [H3]; · iexact H3
  isplitl [H4]; · iexact H4
  isplitl [H5]; · iexact H5
  iexact H6

theorem cond3_iff (i : grid0.Coords) (v0 : BitVec 32) : k0_cond3 i v0 = 1#1 ↔ (BitVec.ofNat 32 (i 0).val * 2048#32).slt v0 = true := by
  unfold k0_cond3
  show Scalar.cmpi .ne (Scalar.extui (BitVec.ofBool ((BitVec.ofNat 32 (i 0).val * 2048#32).slt v0))) 0#32 = 1#1 ↔ _
  cases (BitVec.ofNat 32 (i 0).val * 2048#32).slt v0 <;> decide

theorem cond2_iff (i : grid0.Coords) (v0 : BitVec 32) : k0_cond2 i v0 = 1#1 ↔ ¬ k0_cond3 i v0 = 1#1 := by
  rw [cond3_iff]
  unfold k0_cond2
  show Scalar.cmpi .ne (Scalar.extui (BitVec.ofBool (v0.sle (BitVec.ofNat 32 (i 0).val * 2048#32)))) 0#32 = 1#1 ↔ _
  have : v0.sle (BitVec.ofNat 32 (i 0).val * 2048#32) = !(BitVec.ofNat 32 (i 0).val * 2048#32).slt v0 := by
    rw [BitVec.sle_eq_not_slt]
  rw [this]
  cases (BitVec.ofNat 32 (i 0).val * 2048#32).slt v0 <;> decide

/-- THE BODY'S RUN: from the table of counts, the three inputs' blocks and the two results' buffers at anything to the
    block's rows and the next pooled sums. -/
theorem sound_body (i : grid0.Coords) (f : TbBuf0 (F := F) c tbM0_0) (v0 : BitVec 32)
    (hv : (tbM0_0.access (Rect.unit (s := S16) ![0] S1.size inb_S16_S1_0) : View sig .tc _ _ _).read (Elt F) f (Shape.Idx.first (s := S1) (numel1_S1.symm ▸ Nat.one_pos)) = v0)
    (W : Vec F S512x128 .i32) (Z : Vec F S64x128 .i32) (B : Vec F S2x16x8x128 .i32)
    (D : Vec F S2048x256 .bf16) (X : Vec F S16x256 .f32) :
    (iprop(tbPt0 c tbM0_0 f ∗ owns (c : Thread nD τ) arg2 fullShare W ∗ owns (c : Thread nD τ) arg3 fullShare Z ∗ owns (c : Thread nD τ) arg4 fullShare B
        ∗ owns (c : Thread nD τ) arg5 fullShare D ∗ owns (c : Thread nD τ) arg6 fullShare X) : sProp 𝕄)
      ⊢ wp frame (wpE (defs₀ (F := F)) 𝒱 c none) E (body arg2 arg3 arg4 arg5 harg5 arg6 i tbM0_0) (fun _ =>
          iprop(tbPt0 c tbM0_0 f ∗ owns (c : Thread nD τ) arg2 fullShare W ∗ owns (c : Thread nD τ) arg3 fullShare Z
            ∗ owns (c : Thread nD τ) arg4 fullShare B ∗ owns (c : Thread nD τ) arg5 fullShare (blockRows i v0 W Z)
            ∗ owns (c : Thread nD τ) arg6 fullShare (poolNext i v0 W Z B X))) := by
  have hsm : (tbPt0 c tbM0_0 f : sProp 𝕄) ⊢ wp frame (wpE (defs₀ (F := F)) 𝒱 c none) E
      (smemLoad tbM0_0 (Rect.unit (s := S16) ![0] S1.size inb_S16_S1_0) numel1_S1 rfl)
      (fun v => iprop(⌜v = v0⌝ ∗ tbPt0 c tbM0_0 f)) := by
    iintro H
    sl_exec
    sl_step
    isplitr; · ipureintro; exact hv
    iexact H
  unfold body
  iintro ⟨H1, H2, H3, H4, H5, H6⟩
  iapply (seq 𝒱 c E hsm) $$ [H1]
  · iexact H1
  iintro H1
  iapply (seq 𝒱 c E (sound_zeroPool 𝒱 c E arg6 i X)) $$ [H6]
  · iexact H6
  iintro H6
  iapply (seq 𝒱 c E (sound_zeroRows 𝒱 c E arg5 harg5 i v0 D)) $$ [H5]
  · iexact H5
  iintro H5
  unfold blockRows poolNext
  by_cases h : k0_cond3 i v0 = 1#1
  · rw [dif_pos h, if_pos h, if_pos h]
    ihave H := ((sound_live 𝒱 c E arg2 arg3 arg4 arg5 harg5 arg6 i v0 W Z B _ _).trans (wp_wand _ _ _ (Q' := fun _ =>
        iprop(tbPt0 c tbM0_0 f ∗ owns (c : Thread nD τ) arg2 fullShare W ∗ owns (c : Thread nD τ) arg3 fullShare Z
              ∗ owns (c : Thread nD τ) arg4 fullShare B
              ∗ owns (c : Thread nD τ) arg5 fullShare (if k0_cond4 i v0 = 1#1 then
                k0_pay4 (Scalar.subi v0 (Scalar.muli (BitVec.ofNat 32 (i 0).val) 2048#32)) (rowsAll (Scalar.subi v0 (Scalar.muli (BitVec.ofNat 32 (i 0).val) 2048#32)) W Z)
              else rowsAll (Scalar.subi v0 (Scalar.muli (BitVec.ofNat 32 (i 0).val) 2048#32)) W Z)
              ∗ owns (c : Thread nD τ) arg6 fullShare (fold (sumsAll (Scalar.subi v0 (Scalar.muli (BitVec.ofNat 32 (i 0).val) 2048#32)) W Z B)
                (if k0_cond1 i = 1#1 then k0_pay1 (F := F) else X)))))) $$ [H2 H3 H4 H5 H6]
    · isplitl [H2]; · iexact H2
      isplitl [H3]; · iexact H3
      isplitl [H4]; · iexact H4
      isplitl [H5]; · iexact H5
      iexact H6
    iapply H
    iintro %a ⟨H2, H3, H4, H5, H6⟩
    isplitl [H1]; · iexact H1
    isplitl [H2]; · iexact H2
    isplitl [H3]; · iexact H3
    isplitl [H4]; · iexact H4
    isplitl [H5]; · iexact H5
    iexact H6
  · rw [dif_neg h, if_neg h, if_neg h, if_pos ((cond2_iff i v0).mpr h)]
    rw [wp_pure]; imodintro
    isplitl [H1]; · iexact H1
    isplitl [H2]; · iexact H2
    isplitl [H3]; · iexact H3
    isplitl [H4]; · iexact H4
    isplitl [H5]; · iexact H5
    iexact H6

end Cert.KernelIdeal.Clean

end
-- ==== Proof.KernelIdeal.Launch.lean ====
/- The call's proof data, its body at every point, the whole run, and the claim that the arguments end unchanged. -/
module

public import proofs.«01_k».proof.Proof.KernelIdeal.Blocks
public import proofs.«01_k».proof.Proof.KernelIdeal.BodyEq
public import proofs.«01_k».proof.Proof.KernelIdeal.Run
public import Idealize.ShloMosaic.Lib.Claim
public import Idealize.ShloMosaic.Lib.Pipeline.TableIdle

@[expose] public section

noncomputable section

namespace Cert.KernelIdeal.Clean

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline at the launch memory's tables: every memory is admissible. -/
abbrev hO : Ok m := ok0_all (tbl m)

/-- The number of distinct rows, from the launch memory. -/
def nu : BitVec 32 := count (tbl m)

theorem atD_count (pf : pre0.Contents (Elt F)) : pf.atD 0 ![0] = count pf := by
  unfold count Pipeline.Prefetch.Contents.atD
  rw [dif_pos (by decide)]; rfl

/-! ## The blocks a point is handed -/

/-- The codes' block of point `t`, -/
def codesBlk (c : Dev nD) (t : Fin (cfgM m (hO m)).N) : Vec F S512x128 .i32 := iblk m (hO m) c 0 t
/-- the scale words', -/
def scalesBlk (c : Dev nD) (t : Fin (cfgM m (hO m)).N) : Vec F S64x128 .i32 := iblk m (hO m) c 1 t
/-- and the counts'. -/
def countsBlk (c : Dev nD) (t : Fin (cfgM m (hO m)).N) : Vec F S2x16x8x128 .i32 := iblk m (hO m) c 2 t

/-! ## The pooled sums, point after point -/

/-- The pooled sums before point `n`: zero, then each point's contribution in turn. -/
def poolAt (c : Dev nD) : (n : ℕ) → n ≤ (cfgM m (hO m)).N → Vec F S16x256 .f32
  | 0, _ => k0_pay1
  | n + 1, h => poolNext (grid0.coords ⟨n, h⟩) (nu m) (codesBlk m c ⟨n, h⟩) (scalesBlk m c ⟨n, h⟩)
      (countsBlk m c ⟨n, h⟩) (poolAt c n (Nat.le_of_lt h))

theorem poolAt_congr (c : Dev nD) {a b : ℕ} (h : a = b) (ha : a ≤ (cfgM m (hO m)).N) (hb : b ≤ (cfgM m (hO m)).N) :
    poolAt m c a ha = poolAt m c b hb := by
  subst h; rfl

/-! ## The proof data -/

def dats (_ : Fin 1) (c : Dev nD) : Dat τ (Elt F) Unit ℕ (UR sig nD τ) ℕ (cfgM m (hO m)) c where
  A w := V m c (Pipeline.arrRef spec0 w)
  after w t := match w with
    | ⟨0, _⟩ => codesBlk m c t
    | ⟨1, _⟩ => scalesBlk m c t
    | ⟨2, _⟩ => countsBlk m c t
    | ⟨3, _⟩ => blockRows (grid0.coords t) (nu m) (codesBlk m c t) (scalesBlk m c t)
    | ⟨4, _⟩ => poolAt m c (t.val + 1) t.isLt
  Φ _ := iprop(Pipeline.ΦA spec0 c ∗ Pipeline.ΦT pre0 (tbl m) c)
  q _ := fullShare
  owed _ := 0

theorem A_eq (c : Dev nD) (w : Fin (cfgM m (hO m)).W) : (dats m 0 c).A w = V m c (Pipeline.arrRef spec0 w) := by
  dsimp only [dats]

theorem after0_0 (c : Dev nD) (t : Fin (cfgM m (hO m)).N) : (dats m 0 c).after 0 t = codesBlk m c t := by dsimp only [dats] <;> rfl
theorem after0_1 (c : Dev nD) (t : Fin (cfgM m (hO m)).N) : (dats m 0 c).after 1 t = scalesBlk m c t := by dsimp only [dats] <;> rfl
theorem after0_2 (c : Dev nD) (t : Fin (cfgM m (hO m)).N) : (dats m 0 c).after 2 t = countsBlk m c t := by dsimp only [dats] <;> rfl
theorem after0_3 (c : Dev nD) (t : Fin (cfgM m (hO m)).N) : (dats m 0 c).after 3 t
    = blockRows (grid0.coords t) (nu m) (codesBlk m c t) (scalesBlk m c t) := by dsimp only [dats] <;> rfl
theorem after0_4 (c : Dev nD) (t : Fin (cfgM m (hO m)).N) : (dats m 0 c).after 4 t = poolAt m c (t.val + 1) t.isLt := by dsimp only [dats] <;> rfl

theorem before0_0 (c : Dev nD) (t : Fin (cfgM m (hO m)).N) (d) : (dats m 0 c).before 0 t d = codesBlk m c t :=
  before0_0_of m (hO m) (dats m 0 c) (A_eq m c 0) (after0_0 m c) t d
theorem before0_1 (c : Dev nD) (t : Fin (cfgM m (hO m)).N) (d) : (dats m 0 c).before 1 t d = scalesBlk m c t :=
  before0_1_of m (hO m) (dats m 0 c) (A_eq m c 1) (after0_1 m c) t d
theorem before0_2 (c : Dev nD) (t : Fin (cfgM m (hO m)).N) (d) : (dats m 0 c).before 2 t d = countsBlk m c t :=
  before0_2_of m (hO m) (dats m 0 c) (A_eq m c 2) (after0_2 m c) t d

/-! ## The pooled sums' buffer -/

theorem cond1_iff (i : grid0.Coords) : k0_cond1 i = 1#1 ↔ (i 0).val = 0 := by
  have h : ∀ j : Fin 49, Scalar.cmpi .ne (Scalar.extui (Scalar.cmpi .eq (BitVec.ofNat 32 j.val) 0#32)) 0#32 = 1#1 ↔ j.val = 0 := by decide
  exact h (i 0)

theorem poolNext_first {i : grid0.Coords} (h1 : k0_cond1 i = 1#1) (v : BitVec 32) (W : Vec F S512x128 .i32) (Z : Vec F S64x128 .i32)
    (B : Vec F S2x16x8x128 .i32) (X X' : Vec F S16x256 .f32) : poolNext i v W Z B X = poolNext i v W Z B X' := by
  unfold poolNext
  rw [if_pos h1, if_pos h1]

theorem poolNext_idle {i : grid0.Coords} {v : BitVec 32} (h1 : ¬ k0_cond1 i = 1#1) (h3 : ¬ k0_cond3 i v = 1#1) (W : Vec F S512x128 .i32) (Z : Vec F S64x128 .i32)
    (B : Vec F S2x16x8x128 .i32) (X : Vec F S16x256 .f32) : poolNext i v W Z B X = X := by
  unfold poolNext
  rw [if_neg h1, if_neg h3]

/-- A point idle for the pooled sums: not the first, and past the last distinct row. -/
theorem idle4 (t : Fin (cfgM m (hO m)).N) (h : (cfgM m (hO m)).idle 4 ((cfgM m (hO m)).grid.coords t) = true) :
    ¬ k0_cond1 (grid0.coords t) = 1#1 ∧ ¬ k0_cond3 (grid0.coords t) (nu m) = 1#1 := by
  have h' : (!(k0_cond1 (grid0.coords t) == 1#1) && !(k0_cond3 (grid0.coords t) ((tbl m).atD 0 ![0]) == 1#1)) = true := h
  rw [atD_count] at h'
  simpa [nu] using h'

/-- There the pooled sums stay. -/
theorem carry4 (c : Dev nD) (t : Fin (cfgM m (hO m)).N) (h : (cfgM m (hO m)).idle 4 ((cfgM m (hO m)).grid.coords t) = true) :
    (dats m 0 c).after 4 t = poolAt m c t.val (Nat.le_of_lt t.isLt) := by
  obtain ⟨h1, h3⟩ := idle4 m t h
  rw [after0_4]
  exact poolNext_idle h1 h3 _ _ _ _

theorem fresh4 : ∀ n, 0 < n → n ≤ 48 → (cfgM m (hO m)).fresh 4 n = false
  | 0, h, _ => absurd h (by omega)
  | n + 1, _, h => by
    have hN : n < (cfgM m (hO m)).N := by have : (cfgM m (hO m)).N = 49 := N_0; omega
    rw [Pipeline.Cfg.fresh_succ _ _ _ hN]
    have hf : ((cfgM m (hO m)).win 4).flush ⟨n, hN⟩ = false := by
      rw [Bool.eq_false_iff]; intro h'
      have := (flush0_4 (adm m (hO m)) ⟨n, hN⟩).mp h'
      simp only at this; omega
    rw [hf, Bool.false_or]
    rcases Nat.eq_zero_or_pos n with rfl | hn
    · rw [Bool.and_eq_false_iff]; left
      rw [Bool.eq_false_iff]; intro h'
      refine (idle4 m _ h').1 ((cond1_iff _).mpr ?_)
      rw [coords0]
    · rw [fresh4 n hn (by omega), Bool.and_false]

theorem before0_4 (c : Dev nD) (t : Fin (cfgM m (hO m)).N) (ht : t.val ≠ 0) (d) :
    (dats m 0 c).before 4 t d = poolAt m c t.val (Nat.le_of_lt t.isLt) := by
  have hN : t.val < 49 := t.isLt.trans_le N_0.le
  rw [(dats m 0 c).before_out_traj 4 rfl (fun _ _ => rfl) (fun t' h0 hi _ => ?_) _ t rfl d, fresh4 m _ (by omega) (by omega),
    if_neg Bool.false_ne_true, after0_4]
  · exact poolAt_congr m c (Nat.sub_add_cancel (Nat.pos_of_ne_zero ht)) _ _
  · rw [carry4 m c t' hi, after0_4]
    exact poolAt_congr m c (Nat.sub_add_cancel (Nat.pos_of_ne_zero h0)).symm _ _

/-- The buffer after the body holds the next sums, whatever an unwritten one held. -/
theorem pool_step (c : Dev nD) (t : Fin (cfgM m (hO m)).N) (d) :
    poolNext (grid0.coords t) (nu m) (codesBlk m c t) (scalesBlk m c t) (countsBlk m c t) ((dats m 0 c).before 4 t d)
      = poolAt m c (t.val + 1) t.isLt := by
  by_cases ht : t.val = 0
  · have h1 : k0_cond1 (grid0.coords t) = 1#1 := (cond1_iff _).mpr (by rw [coords0]; exact ht)
    exact poolNext_first h1 _ _ _ _ _ _
  · rw [before0_4 m c t ht d]; rfl

/-! ## The body obligation -/

/-- The table word the body reads is the count. -/
theorem read_count (c : Dev nD) : (tbM0_0.access (Rect.unit (s := S16) ![0] S1.size inb_S16_S1_0) : View sig .tc _ _ _).read (Elt F)
    (tbl m 0 : TbBuf0 (F := F) c tbM0_0) (Shape.Idx.first (s := S1) (numel1_S1.symm ▸ Nat.one_pos)) = nu m := rfl

def bodyPre (c : Dev nD) (t : Fin (cfgM m (hO m)).N) : sProp 𝕄 :=
  iprop((dats m 0 c).Φ t.castSucc ∗ (dats m 0 c).owesAt () t.castSucc
    ∗ (∃ d, owns (c : Thread nD τ) (st0_0 (adm m (hO m)) t) fullShare ((dats m 0 c).before 0 t d))
    ∗ (∃ d, owns (c : Thread nD τ) (st0_1 (adm m (hO m)) t) fullShare ((dats m 0 c).before 1 t d))
    ∗ (∃ d, owns (c : Thread nD τ) (st0_2 (adm m (hO m)) t) fullShare ((dats m 0 c).before 2 t d))
    ∗ (∃ d, owns (c : Thread nD τ) (st0_3 (adm m (hO m)) t) fullShare ((dats m 0 c).before 3 t d))
    ∗ (∃ d, owns (c : Thread nD τ) (st0_4 (adm m (hO m)) t) fullShare ((dats m 0 c).before 4 t d)))

def bodyPost (c : Dev nD) (t : Fin (cfgM m (hO m)).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem owns_of_eq {c : Dev nD} {S : Shape} {e : EltTy} (M : Memref sig .tc .vmem S e) {X Y : S.Idx → Elt F e} (h : X = Y) :
    owns (c : Thread nD τ) M fullShare X ⊢ (owns (c : Thread nD τ) M fullShare Y : sProp 𝕄) := by
  subst h; exact .rfl

theorem leaves0 (c : Dev nD) (t : Fin (cfgM m (hO m)).N) :
    owns (c : Thread nD τ) (st0_0 (adm m (hO m)) t) fullShare ((dats m 0 c).after 0 t) ⊢ ((dats m 0 c).leavesExact 0 t : sProp 𝕄) := .rfl

theorem leaves1 (c : Dev nD) (t : Fin (cfgM m (hO m)).N) :
    owns (c : Thread nD τ) (st0_1 (adm m (hO m)) t) fullShare ((dats m 0 c).after 1 t) ⊢ ((dats m 0 c).leavesExact 1 t : sProp 𝕄) := .rfl

theorem leaves2 (c : Dev nD) (t : Fin (cfgM m (hO m)).N) :
    owns (c : Thread nD τ) (st0_2 (adm m (hO m)) t) fullShare ((dats m 0 c).after 2 t) ⊢ ((dats m 0 c).leavesExact 2 t : sProp 𝕄) := .rfl

theorem leaves3 (c : Dev nD) (t : Fin (cfgM m (hO m)).N) :
    owns (c : Thread nD τ) (st0_3 (adm m (hO m)) t) fullShare ((dats m 0 c).after 3 t) ⊢ ((dats m 0 c).leavesExact 3 t : sProp 𝕄) := by
  unfold Dat.leavesExact
  rw [flush0_3 (adm m (hO m)) t]
  cases (cfgM m (hO m)).idle 3 ((cfgM m (hO m)).grid.coords t) <;> exact .rfl

theorem leaves4 (c : Dev nD) (t : Fin (cfgM m (hO m)).N) :
    owns (c : Thread nD τ) (st0_4 (adm m (hO m)) t) fullShare ((dats m 0 c).after 4 t) ⊢ ((dats m 0 c).leavesExact 4 t : sProp 𝕄) := by
  unfold Dat.leavesExact
  cases hi : (cfgM m (hO m)).idle 4 ((cfgM m (hO m)).grid.coords t)
  · exact .rfl
  · cases ((cfgM m (hO m)).win 4).flush t
    · have ht : t.val ≠ 0 := fun h0 => (idle4 m t hi).1 ((cond1_iff _).mpr (by rw [coords0]; exact h0))
      have e : (dats m 0 c).after 4 t = (dats m 0 c).before 4 t (k0_pay1 (F := F)) :=
        (carry4 m c t hi).trans (before0_4 m c t ht _).symm
      exact (owns_of_eq (st0_4 (adm m (hO m)) t) e).trans (exists_intro (Φ := fun d => owns (c : Thread nD τ) (st0_4 (adm m (hO m)) t) fullShare ((dats m 0 c).before 4 t d)) _)
    · exact .rfl

/-- The body at point `t`, by its clean form. -/
theorem bodyAt0_eq (a : (pcfg0 (F := F)).Adm) (t : Fin (cfg0 a).N) : bodyAt0 a t
    = body (spec0_0.stage ((cfg0 a).slots t 0)) (spec0_1.stage ((cfg0 a).slots t 1)) (spec0_2.stage ((cfg0 a).slots t 2))
        (spec0_3.stage ((cfg0 a).slots t 3)) (hstage0_3 (((cfg0 a).slots t 3).cast nbuf0_3)) (spec0_4.stage ((cfg0 a).slots t 4)) (grid0.coords t) tbM0_0 :=
  body_eq (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

theorem sound_point (c : Dev nD) (t : Fin (cfgM m (hO m)).N) :
    bodyPre m c t ⊢ wp frame (wpE (defs₀ (F := F)) Variants.none c none) Set.univ (bodyAt0 (adm m (hO m)) t) (fun _ => bodyPost m c t) := by
  rw [bodyAt0_eq]
  unfold bodyPre bodyPost
  simp only [before0_0, before0_1, before0_2]
  have hΦ : (dats m 0 c).Φ t.castSucc = iprop(Pipeline.ΦA spec0 c ∗ tbPt0 c tbM0_0 (tbl m 0)) := by rw [← PhiT0_eq]; rfl
  rw [show (dats m 0 c).Φ t.succ = (dats m 0 c).Φ t.castSucc from rfl,
    show (dats m 0 c).owesAt () t.succ = (dats m 0 c).owesAt () t.castSucc from rfl, hΦ]
  iintro ⟨⟨HA, HT⟩, Ho, ⟨%d0, H0⟩, ⟨%d1, H1⟩, ⟨%d2, H2⟩, ⟨%d3, H3⟩, ⟨%d4, H4⟩⟩
  ihave H := ((sound_body Variants.none c Set.univ (spec0_0.stage ((cfg0 (adm m (hO m))).slots t 0)) (spec0_1.stage ((cfg0 (adm m (hO m))).slots t 1)) (spec0_2.stage ((cfg0 (adm m (hO m))).slots t 2)) (spec0_3.stage ((cfg0 (adm m (hO m))).slots t 3))
      (hstage0_3 (((cfg0 (adm m (hO m))).slots t 3).cast nbuf0_3)) (spec0_4.stage ((cfg0 (adm m (hO m))).slots t 4)) (grid0.coords t) (tbl m 0) (nu m) (read_count m c)
      (codesBlk m c t) (scalesBlk m c t) (countsBlk m c t) ((dats m 0 c).before 3 t d3) ((dats m 0 c).before 4 t d4)).trans (wp_wand _ _ _ (Q' := fun _ =>
        iprop((Pipeline.ΦA spec0 c ∗ tbPt0 c tbM0_0 (tbl m 0)) ∗ (dats m 0 c).owesAt () t.castSucc
          ∗ (dats m 0 c).leavesExact 0 t ∗ (dats m 0 c).leavesExact 1 t ∗ (dats m 0 c).leavesExact 2 t
          ∗ (dats m 0 c).leavesExact 3 t ∗ (dats m 0 c).leavesExact 4 t)))) $$ [HT H0 H1 H2 H3 H4]
  · isplitl [HT]; · iexact HT
    isplitl [H0]; · iexact H0
    isplitl [H1]; · iexact H1
    isplitl [H2]; · iexact H2
    isplitl [H3]; · iexact H3
    iexact H4
  iapply H
  iintro %a ⟨HT, H0, H1, H2, H3, H4⟩
  isplitl [HA HT]
  · isplitl [HA]; · iexact HA
    iexact HT
  isplitl [Ho]; · iexact Ho
  isplitl [H0]; · iapply (leaves0 m c t); iapply (owns_of_eq (st0_0 (adm m (hO m)) t) (after0_0 m c t).symm); iexact H0
  isplitl [H1]; · iapply (leaves1 m c t); iapply (owns_of_eq (st0_1 (adm m (hO m)) t) (after0_1 m c t).symm); iexact H1
  isplitl [H2]; · iapply (leaves2 m c t); iapply (owns_of_eq (st0_2 (adm m (hO m)) t) (after0_2 m c t).symm); iexact H2
  isplitl [H3]
  · iapply (leaves3 m c t); iapply (owns_of_eq (st0_3 (adm m (hO m)) t) (after0_3 m c t).symm); iexact H3
  · iapply (leaves4 m c t); iapply (owns_of_eq (st0_4 (adm m (hO m)) t) ((pool_step m c t d4).trans (after0_4 m c t).symm)); iexact H4

theorem defs₀_row (t : Fin (cfgM m (hO m)).N) :
    defs₀ (F := F) .tc (cfgM m (hO m)).body ((cfgM m (hO m)).bodyArgs t ((cfgM m (hO m)).slots t)) = bodyAt0 (adm m (hO m)) t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_point m c t) rfl .rfl fun _ => .rfl

/-! ## The run and the frame -/

set_option backward.isDefEq.respectTransparency.types false in
theorem run_main_quiescent : θ_run defs (onTc (τ := τ) (main (F := F))) (s₀ m ρ)
    (fun r => (Pipeline.FramePost (Pipeline.pin pcfgs fun _ => adm m (hO m)) (dats m) 0 (V m)) r ∧ r.2.sem = fun _ => 0) :=
  Pipeline.θ_run_frameP (Q' := _) pcfgs (fun _ => adm m (hO m)) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m) (hΦ := fun _ _ => rfl)

theorem run_main : θ_run defs (onTc (τ := τ) (main (F := F))) (s₀ m ρ) (Pipeline.FramePost (Pipeline.pin pcfgs fun _ => adm m (hO m)) (dats m) 0 (V m)) :=
  (θ_run defs _ _).mono (fun _ h => h.1) (run_main_quiescent m ρ)

/-- The call terminates without fault and leaves its arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (hO m) (dats m) (A_eq m) (run_main m ρ)) ((θ_run defs _ _).mono (fun _ h => h.2) (run_main_quiescent m ρ))

end Cert.KernelIdeal.Clean

end
-- ==== Proof.Spec.lean ====
/- The embedding bag in plain mathematics: a row's entry is its signed four-bit code times its group's scale, a pooled sum
   the sum over the slots of how often a bag uses a slot times the slot's row. -/
module

public import Idealize.ShloMosaic.Lib.Pointwise
public import Idealize.ShloMosaic.Lib.BitcastPair
public import Idealize.ShloMosaic.Lib.IdealHost
public import Idealize.ShloMosaic.Lib.Affine

@[expose] public section

noncomputable section

namespace Cert.Bag

open Idealize.ShloMosaic

variable {α : Type}

/-- A matrix read at two numbers; 0 outside. -/
def at2 {R C : Nat} {n : Nat} (x : (⟨2, ![R, C]⟩ : Shape).Idx → BitVec n) (a b : Nat) : BitVec n :=
  if h : a < R ∧ b < C then x (ix2 ⟨a, h.1⟩ ⟨b, h.2⟩) else 0#n

/-- An array of four axes read at four numbers; 0 outside. -/
def at4 {A B C D : Nat} {n : Nat} (x : (⟨4, ![A, B, C, D]⟩ : Shape).Idx → BitVec n) (a b c d : Nat) : BitVec n :=
  if h : a < A ∧ b < B ∧ c < C ∧ d < D then x (ix4 ⟨a, h.1⟩ ⟨b, h.2.1⟩ ⟨c, h.2.2.1⟩ ⟨d, h.2.2.2⟩) else 0#n

theorem at2_ix {R C n : Nat} (x : (⟨2, ![R, C]⟩ : Shape).Idx → BitVec n) (a : Fin R) (b : Fin C) :
    x (ix2 a b) = at2 x a.val b.val := by
  unfold at2; rw [dif_pos ⟨a.isLt, b.isLt⟩]

theorem at4_ix {A B C D n : Nat} (x : (⟨4, ![A, B, C, D]⟩ : Shape).Idx → BitVec n) (a : Fin A) (b : Fin B) (c : Fin C) (d : Fin D) :
    x (ix4 a b c d) = at4 x a.val b.val c.val d.val := by
  unfold at4; rw [dif_pos ⟨a.isLt, b.isLt, c.isLt, d.isLt⟩]

/-- The signed number of four-bit field `k` of a word. -/
def nib (w : BitVec 32) (k : Nat) : Int := (w.extractLsb' (4 * k) 4).toInt

/-- The bf16 number in half `u` of a word. -/
def scale (w : BitVec 32) (u : Nat) : EReal := Ideal.ofBits .bf16 (w.extractLsb' (16 * u) 16)

/-- A code times its scale. -/
def val (w : BitVec 32) (k : Nat) (z : BitVec 32) (u : Nat) : EReal := ((nib w k : ℝ) : EReal) * scale z u

theorem scale_zero (u : Nat) : scale 0#32 u = 0 := by
  unfold scale
  rw [show (0#32 : BitVec 32).extractLsb' (16 * u) 16 = 0x0000#16 from by
    apply BitVec.eq_of_getLsbD_eq; intro i hi; rw [BitVec.getLsbD_extractLsb']; simp]
  exact Ideal.ofBits_zero .bf16

/-- Entry `d` of row `s`: column `2l + p` is field `2 (s mod 4) + p` of code word `(s / 4, l)` times the scale of group
    `d / 32`; zero from the count `nu` of distinct rows on. -/
def row {Rw Cw Rz Cz : Nat} (nu : BitVec 32) (W : (⟨2, ![Rw, Cw]⟩ : Shape).Idx → BitVec 32)
    (Z : (⟨2, ![Rz, Cz]⟩ : Shape).Idx → BitVec 32) (s d : Nat) : EReal :=
  if (s : Int) < nu.toInt then
    val (at2 W (s / 4) (d / 2)) (2 * (s % 4) + d % 2) (at2 Z (4 * (s / 128) + d / 64) (s % 128)) (d / 32 % 2)
  else 0

/-- A choice on a signed comparison of a slot's number. -/
theorem select_slt {β : Type} (n : Nat) (hn : n < 2147483648) (left : BitVec 32) (a b : β) :
    Scalar.select (IntOp.cmpi .slt (BitVec.ofNat 32 n) left) a b = if (n : Int) < left.toInt then a else b := by
  have hI : (BitVec.ofNat 32 n).toInt = n := by
    rw [BitVec.toInt_eq_toNat_of_lt (by rw [BitVec.toNat_ofNat]; omega), BitVec.toNat_ofNat]; omega
  unfold Scalar.select
  by_cases h : (n : Int) < left.toInt
  · rw [if_pos h, if_pos]
    exact IntOp.cmpi_slt.mpr (by rw [hI]; exact h)
  · rw [if_neg h, if_neg]
    intro hc
    have := IntOp.cmpi_slt.mp hc
    rw [hI] at this
    exact h this

/-- How often bag `b` uses slot `s`. -/
def uses {A B C D : Nat} (X : (⟨4, ![A, B, C, D]⟩ : Shape).Idx → BitVec 32) (b s : Nat) : EReal :=
  (((at4 X (b / 8) (s / 128) (b % 8) (s % 128)).toInt : ℝ) : EReal)

end Cert.Bag

end
-- ==== Proof.KernelIdeal.Values.lean ====
/- What a point's decoded rows and counts are, entry by entry, over the extended reals. -/
module

public import proofs.«01_k».proof.Proof.KernelIdeal.Run
public import proofs.«01_k».proof.Proof.Spec

@[expose] public section

noncomputable section

namespace Cert.KernelIdeal.Clean

open Idealize.ShloMosaic Cert.KernelIdeal Cert.KernelIdeal.Gen Cert.Bag

/-! ## Reinterpreted words -/

/-- Words read as bytes: row `r` is byte `r mod 4` of the words of row `r / 4`. -/
theorem bitcast_32_8_ix (x : S8x128.Idx → BitVec 32) (h : S8x128.Bitcasts 32 S32x128 8) (r : Fin 32) (e : Fin 128) :
    bitcast S32x128 8 x h (ix2 r e) = (x (ix2 ⟨r.val / 4, by omega⟩ e)).extractLsb' (8 * (r.val % 4)) 8 := by
  apply BitVec.eq_of_getLsbD_eq
  intro i hi
  rw [bitcast_getLsbD x h _ i hi (by decide), BitVec.getLsbD_extractLsb']
  have hr : S32x128.row (ix2 r e) = r.val := rfl
  have e1 : (r.val * 8 + i) % 32 = 8 * (r.val % 4) + i := by omega
  rw [show (S32x128.row (ix2 r e) * 8 + i) % 32 = 8 * (r.val % 4) + i from by rw [hr]; exact e1]
  simp only [hi, decide_true, Bool.true_and]
  congr 2
  funext c
  match c with
  | ⟨0, _⟩ => exact Fin.ext ((h.srcIdx_row _ _ _ ⟨0, Nat.zero_lt_two⟩ rfl).trans (by rw [hr]; show (r.val * 8 + i) / 32 = r.val / 4; omega))
  | ⟨1, _⟩ => exact Fin.ext (h.srcIdx_other _ _ _ ⟨1, Nat.one_lt_two⟩ (by show ¬ 1 + 2 = 2; omega))

/-- Words read as halves: row `r` is half `r mod 2` of the words of row `r / 2`. -/
theorem bitcast_32_16_ix (x : S8x128.Idx → BitVec 32) (h : S8x128.Bitcasts 32 S16x128 16) (r : Fin 16) (e : Fin 128) :
    bitcast S16x128 16 x h (ix2 r e) = (x (ix2 ⟨r.val / 2, by omega⟩ e)).extractLsb' (16 * (r.val % 2)) 16 := by
  rw [bitcast_32_16]
  have hr : S16x128.row (ix2 r e) = r.val := rfl
  congr 2
  funext c
  match c with
  | ⟨0, _⟩ => exact Fin.ext ((h.srcIdx_row _ _ _ ⟨0, Nat.zero_lt_two⟩ rfl).trans (by rw [hr]; rfl))
  | ⟨1, _⟩ => exact Fin.ext (h.srcIdx_other _ _ _ ⟨1, Nat.one_lt_two⟩ (by show ¬ 1 + 2 = 2; omega))

/-! ## The codes -/

/-- Four bits above four zeros are sixteen times the signed number of the four. -/
theorem toInt_nib (a : BitVec 4) : (a ++ 0#4).toInt = 16 * a.toInt := by revert a; decide

/-- A word shifted up by four and masked to the high halves of its bytes: byte `k` is field `2k` above zeros. -/
theorem low_field (x : BitVec 32) (k : Nat) (hk : k < 4) :
    ((x <<< 4) &&& 4042322160#32).extractLsb' (8 * k) 8 = x.extractLsb' (4 * (2 * k)) 4 ++ 0#4 := by
  apply BitVec.eq_of_getLsbD_eq
  intro i hi
  rw [BitVec.getLsbD_append]
  interval_cases k <;> interval_cases i <;> simp

/-- Not shifted, it is field `2k + 1`. -/
theorem high_field (x : BitVec 32) (k : Nat) (hk : k < 4) :
    (x &&& 4042322160#32).extractLsb' (8 * k) 8 = x.extractLsb' (4 * (2 * k + 1)) 4 ++ 0#4 := by
  apply BitVec.eq_of_getLsbD_eq
  intro i hi
  rw [BitVec.getLsbD_append]
  interval_cases k <;> interval_cases i <;> simp

/-- The lane a column's code word stands in. -/
theorem lane_of : ∀ (hf : Fin 2) (e : Fin 128),
    (Scalar.select (IntOp.cmpi .slt (IntOp.addi (BitVec.ofNat 32 (64 * hf.val)) (IntOp.shrsi .vector (BitVec.ofNat 32 e.val) 1#32)) 0#32)
      (IntOp.addi (IntOp.addi (BitVec.ofNat 32 (64 * hf.val)) (IntOp.shrsi .vector (BitVec.ofNat 32 e.val) 1#32)) 128#32)
      (IntOp.addi (BitVec.ofNat 32 (64 * hf.val)) (IntOp.shrsi .vector (BitVec.ofNat 32 e.val) 1#32))).toNat % 128
      = 64 * hf.val + e.val / 2 := by decide +kernel

/-- The shift of a column: four for the even ones. -/
theorem shift_of : ∀ e : Fin 128, Scalar.select (IntOp.cmpi .eq (IntOp.andi (BitVec.ofNat 32 e.val) 1#32) 0#32) 4#32 0#32
    = if e.val % 2 = 0 then 4#32 else 0#32 := by decide +kernel

/-- A byte of a shifted and masked word, as a number: sixteen times a field. -/
theorem byte_toInt (x : BitVec 32) (k : Nat) (hk : k < 4) (e : Fin 128) :
    (BitVec.extractLsb' (8 * k) 8 (IntOp.andi (IntOp.shli .vector x
      (Scalar.select (IntOp.cmpi .eq (IntOp.andi (BitVec.ofNat 32 e.val) 1#32) 0#32) 4#32 0#32)) 4042322160#32)).toInt
      = 16 * nib x (2 * k + e.val % 2) := by
  rw [shift_of]
  unfold nib
  by_cases he : e.val % 2 = 0
  · rw [if_pos he, he, Nat.add_zero, ← toInt_nib, ← low_field x k hk]; rfl
  · have h1 : e.val % 2 = 1 := by omega
    rw [if_neg he, h1, ← toInt_nib, ← high_field x k hk]
    have : IntOp.shli .vector x 0#32 = x := by
      unfold IntOp.shli; rw [if_pos (by decide)]; exact BitVec.shiftLeft_zero x
    rw [this]; rfl

theorem sixteenth (n : Int) : ((16 * n : Int) : ℝ) * (1 / 16) = (n : ℝ) := by push_cast; ring

set_option maxRecDepth 16384 in
/-- Half `hf` of 32 decoded rows: each code times its scale. -/
theorem half_apply (hf : Fin 2) (c : Fin 4) (sc : FVec Ideal S128x256 .bf16) (w : Vec Ideal S8x128 .i32) (r : Fin 32) (e : Fin 128) :
    half hf c sc w (ix2 r e) = ((nib (at2 (R := 8) (C := 128) w (r.val / 4) (64 * hf.val + e.val / 2)) (2 * (r.val % 4) + e.val % 2) : ℝ) : EReal)
      * sc (ix2 ⟨32 * c.val + r.val, by omega⟩ ⟨128 * hf.val + e.val, by omega⟩) := by
  unfold half
  pointwise [k0_pay5, lane]
  rw [bitcast_32_8_ix]
  pointwise
  congr 1
  rw [Ideal.ofBits_sixteenth_bf16]
  show (((BitVec.toInt _ : ℤ) : ℝ) : EReal) * _ = _
  rw [byte_toInt _ _ (by omega), ← EReal.coe_mul, sixteenth]
  have hw : ∀ (l : Fin 128) (hl : l.val = 64 * hf.val + e.val / 2),
      w (ix2 ⟨r.val / 4, by omega⟩ l) = at2 (R := 8) (C := 128) w (r.val / 4) (64 * hf.val + e.val / 2) := by
    intro l hl
    rw [← hl]
    exact at2_ix (R := 8) (C := 128) w _ _
  refine congrArg (fun z : BitVec 32 => ((nib z (2 * (r.val % 4) + e.val % 2) : ℝ) : EReal)) (hw _ ?_)
  exact lane_of hf e

/-! ## The scales -/

theorem group_slot : ∀ R : Fin 16, IntOp.muli (IntOp.shrsi .vector (BitVec.ofNat 32 (R.val / 2)) 2#32) 128#32
    = BitVec.ofNat 32 (128 * (R.val / 8)) := by decide +kernel

set_option maxRecDepth 16384 in
/-- The scales of a step: row `R`, lane `p` is half `R mod 2` of word `(R / 2, p)`; zero past the last slot. -/
theorem scales_apply (left : BitVec 32) (t : Nat) (ht : t < 8) (z : Vec Ideal S8x128 .i32) (R : Fin 16) (p : Fin 128) :
    scalesOf left t z (ix2 R p) = if ((256 * t + 128 * (R.val / 8) + p.val : Nat) : Int) < left.toInt then
      scale (at2 (R := 8) (C := 128) z (R.val / 2) p.val) (R.val % 2) else 0 := by
  unfold scalesOf
  pointwise [lane]
  rw [bitcast_32_16_ix]
  pointwise
  rw [group_slot R]
  show Ideal.ofBits FTy.bf16 (BitVec.extractLsb' _ 16 (Scalar.select (IntOp.cmpi .slt
    (BitVec.ofNat 32 (256 * t) + BitVec.ofNat 32 (128 * (R.val / 8)) + BitVec.ofNat 32 p.val) left) _ _)) = _
  have hz : z (ix2 ⟨R.val / 2, by omega⟩ p) = at2 (R := 8) (C := 128) z (R.val / 2) p.val := at2_ix (R := 8) (C := 128) z _ _
  rw [← BitVec.ofNat_add, ← BitVec.ofNat_add, select_slt _ (by omega), hz]
  split
  · rfl
  · exact scale_zero _

theorem group_of : ∀ d : Fin 256,
    Scalar.select
            (IntOp.andi
              (IntOp.cmpi .ne
                (IntOp.subi (BitVec.setWidth 32 (IntOp.cmpi .sgt (BitVec.ofNat 32 d.val) 0#32))
                  (BitVec.setWidth 32 (IntOp.cmpi .slt (BitVec.ofNat 32 d.val) 0#32)))
                (Scalar.subi (Scalar.extui (Scalar.cmpi .sgt 32#32 0#32))
                  (Scalar.extui (Scalar.cmpi .slt 32#32 0#32))))
              (IntOp.cmpi .ne (IntOp.remsi .vector (BitVec.ofNat 32 d.val) 32#32) 0#32))
            (IntOp.subi (IntOp.divsi .vector (BitVec.ofNat 32 d.val) 32#32) 1#32)
            (IntOp.divsi .vector (BitVec.ofNat 32 d.val) 32#32) = BitVec.ofNat 32 (d.val / 32) := by decide +kernel

set_option maxRecDepth 16384 in
/-- The spread scales: column `d` of slot `p` has the scale of group `d / 32`. -/
theorem spread_apply (h : Fin 2) (zb : FVec Ideal S16x128 .bf16) (p : Fin 128) (d : Fin 256) :
    spread h zb (ix2 p d) = zb (ix2 ⟨8 * h.val + d.val / 32, by omega⟩ p) := by
  unfold spread
  pointwise [k0_pay6]
  rw [Finset.sum_eq_single (⟨d.val / 32, by omega⟩ : Fin 8)]
  · rw [group_of]
    unfold Scalar.select
    rw [if_pos (by show IntOp.cmpi .eq _ _ = 1#1; exact IntOp.cmpi_eq_self _)]
  · intro x _ hx
    rw [group_of]
    unfold Scalar.select
    rw [if_neg]
    intro hc
    have := IntOp.cmpi_eq.mp hc
    have h2 := congrArg BitVec.toNat this
    rw [BitVec.toNat_ofNat, BitVec.toNat_ofNat] at h2
    apply hx
    apply Fin.ext
    show x.val = d.val / 32
    omega
  · intro hx
    exact absurd (Finset.mem_univ _) hx

/-! ## The rows -/

set_option maxRecDepth 16384 in
theorem rows32_apply (c : Fin 4) (sc : FVec Ideal S128x256 .bf16) (w : Vec Ideal S8x128 .i32) (r : Fin 32) (d : Fin 256) :
    rows32 c sc w (ix2 r d) = ((nib (at2 (R := 8) (C := 128) w (r.val / 4) (d.val / 2)) (2 * (r.val % 4) + d.val % 2) : ℝ) : EReal)
      * sc (ix2 ⟨32 * c.val + r.val, by omega⟩ d) := by
  unfold rows32
  pointwise
  split
  · rename_i hd
    rw [half_apply]
    congr 3
    · show nib (at2 w _ (64 * 0 + d.val / 2)) _ = _
      rw [Nat.mul_zero, Nat.zero_add]
    · apply Fin.ext; show 128 * 0 + d.val = d.val; omega
  · rename_i hd
    rw [half_apply]
    congr 3
    · show nib (at2 w _ (64 * 1 + (d.val - 128) / 2)) (2 * (r.val % 4) + (d.val - 128) % 2) = _
      rw [show 64 * 1 + (d.val - 128) / 2 = d.val / 2 by omega, show (d.val - 128) % 2 = d.val % 2 by omega]
    · apply Fin.ext; show 128 * 1 + (d.val - 128) = d.val; omega

theorem codesOf_at2 (W : Vec Ideal S512x128 .i32) (n : Fin 64) (a b : Nat) (ha : a < 8) :
    at2 (R := 8) (C := 128) (codesOf W n) a b = at2 (R := 512) (C := 128) W (8 * n.val + a) b := by
  unfold at2
  by_cases hb : b < 128
  · rw [dif_pos ⟨ha, hb⟩, dif_pos ⟨by omega, hb⟩]
    unfold codesOf
    pointwise
  · rw [dif_neg (fun h => hb h.2), dif_neg (fun h => hb h.2)]

theorem zOf_at2 (Z : Vec Ideal S64x128 .i32) (t : Fin 8) (a b : Nat) (ha : a < 8) :
    at2 (R := 8) (C := 128) (zOf Z t) a b = at2 (R := 64) (C := 128) Z (8 * t.val + a) b := by
  unfold at2
  by_cases hb : b < 128
  · rw [dif_pos ⟨ha, hb⟩, dif_pos ⟨by omega, hb⟩]
    unfold zOf
    pointwise
  · rw [dif_neg (fun h => hb h.2), dif_neg (fun h => hb h.2)]

/-- A quarter's rows, entry by entry. -/
theorem quarterRows_apply (left : BitVec 32) (W : Vec Ideal S512x128 .i32) (Z : Vec Ideal S64x128 .i32) (n : Fin 64) (r : Fin 32) (d : Fin 256) :
    quarterRows left W Z n (ix2 r d) = row (Rw := 512) (Cw := 128) (Rz := 64) (Cz := 128) left W Z (32 * n.val + r.val) d.val := by
  unfold quarterRows row
  rw [rows32_apply, spread_apply, scales_apply _ _ (by omega), codesOf_at2 _ _ _ _ (by omega), zOf_at2 _ _ _ _ (by show (8 * (n.val / 4 % 2) + d.val / 32) / 2 < 8; omega)]
  have hs : ((256 * (n.val / 8) + 128 * ((8 * (n.val / 4 % 2) + d.val / 32) / 8) + (32 * (n.val % 4) + r.val) : Nat) : Int) = ((32 * n.val + r.val : Nat) : Int) := by
    congr 1; omega
  show _ * (if ((256 * (n.val / 8) + 128 * ((8 * (n.val / 4 % 2) + d.val / 32) / 8) + (32 * (n.val % 4) + r.val) : Nat) : Int) < left.toInt then
    scale (at2 Z (8 * (n.val / 8) + (8 * (n.val / 4 % 2) + d.val / 32) / 2) (32 * (n.val % 4) + r.val)) ((8 * (n.val / 4 % 2) + d.val / 32) % 2) else 0) = _
  rw [hs]
  split
  · unfold val
    rw [show 8 * n.val + r.val / 4 = (32 * n.val + r.val) / 4 by omega, show r.val % 4 = (32 * n.val + r.val) % 4 by omega,
      show 8 * (n.val / 8) + (8 * (n.val / 4 % 2) + d.val / 32) / 2 = 4 * ((32 * n.val + r.val) / 128) + d.val / 64 by omega,
      show 32 * (n.val % 4) + r.val = (32 * n.val + r.val) % 128 by omega, show (8 * (n.val / 4 % 2) + d.val / 32) % 2 = d.val / 32 % 2 by omega]
  · rw [mul_zero]

/-- A block's rows, entry by entry. -/
theorem rowsAll_apply (left : BitVec 32) (W : Vec Ideal S512x128 .i32) (Z : Vec Ideal S64x128 .i32) (y : Fin 2048) (d : Fin 256) :
    rowsAll left W Z (ix2 y d) = row (Rw := 512) (Cw := 128) (Rz := 64) (Cz := 128) left W Z y.val d.val := by
  have h : rowsAll left W Z (ix2 y d) = quarterRows left W Z ⟨y.val / 32, by omega⟩ (ix2 ⟨y.val % 32, by omega⟩ d) := by
    unfold rowsAll
    congr 1
    funext a
    match a with
    | ⟨0, _⟩ => rfl
    | ⟨1, _⟩ => rfl
  rw [h, quarterRows_apply]
  congr 1
  show 32 * (y.val / 32) + y.val % 32 = y.val
  omega

end Cert.KernelIdeal.Clean

end
-- ==== Proof.KernelIdeal.Sums.lean ====
/- What a point adds to the pooled sums, over the extended reals: for counts that are not negative, the sum over its
   slots of the count times the decoded row. -/
module

public import proofs.«01_k».proof.Proof.KernelIdeal.Values

@[expose] public section

noncomputable section

namespace Cert.KernelIdeal.Clean

open Idealize.ShloMosaic Cert.KernelIdeal Cert.KernelIdeal.Gen Cert.Bag

/-! ## The counts -/

/-- The count word of bag `b` and slot `s` of a block, zero past the last slot. -/
def cnt (left : BitVec 32) (B : Vec Ideal S2x16x8x128 .i32) (b s : Nat) : BitVec 32 :=
  if (s : Int) < left.toInt then at4 (A := 2) (B := 16) (C := 8) (D := 128) B (b / 8) (s / 128) (b % 8) (s % 128) else 0#32

/-- Row `r` of the counts: a bag's low bytes, then the rest of its words. -/
def part (left : BitVec 32) (B : Vec Ideal S2x16x8x128 .i32) (r s : Nat) : BitVec 32 :=
  if r < 16 then IntOp.andi (cnt left B r s) 255#32 else IntOp.shrsi .vector (cnt left B (r - 16) s) 8#32

set_option maxRecDepth 16384 in
theorem bagOf_ix (B : Vec Ideal S2x16x8x128 .i32) (j : Fin 16) (a : Fin 2) (e : Fin 8) (p : Fin 128) :
    bagOf B j (ix4 a 0 e p) = at4 (A := 2) (B := 16) (C := 8) (D := 128) B a.val j.val e.val p.val := by
  rw [← at4_ix (A := 2) (B := 16) (C := 8) (D := 128) B a j e p]
  unfold bagOf
  pointwise

set_option maxRecDepth 16384 in
theorem counts_apply (left : BitVec 32) (j : Fin 16) (B : Vec Ideal S2x16x8x128 .i32) (r : Fin 32) (p : Fin 128) :
    counts (F := Ideal) left j.val (bagOf B j) (ix2 r p) = part left B r.val (128 * j.val + p.val) := by
  unfold counts part cnt
  pointwise
  have hw : ∀ {β : Type} (a b : β), Scalar.select (IntOp.cmpi .slt (IntOp.addi (BitVec.ofNat 32 (128 * j.val)) (BitVec.ofNat 32 p.val)) left) a b
      = if ((128 * j.val + p.val : Nat) : Int) < left.toInt then a else b := by
    intro β a b
    show Scalar.select (IntOp.cmpi .slt (BitVec.ofNat 32 (128 * j.val) + BitVec.ofNat 32 p.val) left) a b = _
    rw [← BitVec.ofNat_add, select_slt _ (by omega)]
  rw [show (128 * j.val + p.val) / 128 = j.val by omega, show (128 * j.val + p.val) % 128 = p.val by omega]
  split
  · rw [hw, bagOf_ix]
  · rw [hw, bagOf_ix]

/-! ## A step's sums -/

/-- A term of the sums. -/
def term (left : BitVec 32) (W : Vec Ideal S512x128 .i32) (Z : Vec Ideal S64x128 .i32) (B : Vec Ideal S2x16x8x128 .i32) (r d s : Nat) : EReal :=
  (((part left B r s).toInt : ℝ) : EReal) * row (Rw := 512) (Cw := 128) (Rz := 64) (Cz := 128) left W Z s d

set_option maxRecDepth 16384 in
theorem rows256_apply (left : BitVec 32) (W : Vec Ideal S512x128 .i32) (Z : Vec Ideal S64x128 .i32) (t : Fin 8) (k d : Fin 256) :
    rows256 (quarterRows left W Z ⟨8 * t.val, by omega⟩) (quarterRows left W Z ⟨8 * t.val + 1, by omega⟩)
      (quarterRows left W Z ⟨8 * t.val + 2, by omega⟩) (quarterRows left W Z ⟨8 * t.val + 3, by omega⟩)
      (quarterRows left W Z ⟨8 * t.val + 4, by omega⟩) (quarterRows left W Z ⟨8 * t.val + 5, by omega⟩)
      (quarterRows left W Z ⟨8 * t.val + 6, by omega⟩) (quarterRows left W Z ⟨8 * t.val + 7, by omega⟩) (ix2 k d)
      = row (Rw := 512) (Cw := 128) (Rz := 64) (Cz := 128) left W Z (256 * t.val + k.val) d.val := by
  unfold rows256
  pointwise
  split_ifs <;> rw [quarterRows_apply] <;> congr 1 <;> dsimp only <;> omega

set_option maxRecDepth 16384 in
/-- What step `t` adds. -/
theorem stepSums_apply (left : BitVec 32) (W : Vec Ideal S512x128 .i32) (Z : Vec Ideal S64x128 .i32) (B : Vec Ideal S2x16x8x128 .i32) (t : Fin 8)
    (acc : FVec Ideal S32x256 .f32) (r : Fin 32) (d : Fin 256)
    (h : acc (ix2 r d) = ∑ s ∈ Finset.range (256 * t.val), term left W Z B r.val d.val s) :
    stepSums left W Z B t acc (ix2 r d) = ∑ s ∈ Finset.range (256 * (t.val + 1)), term left W Z B r.val d.val s := by
  rw [show 256 * (t.val + 1) = 256 * t.val + (128 + 128) by omega, Finset.sum_range_add, Finset.sum_range_add, ← h]
  unfold stepSums sums
  pointwise
  simp only [rows256_apply, Finset.sum_range]
  congr 2
  · refine Finset.sum_congr rfl fun k _ => ?_
    have := counts_apply left ⟨2 * t.val, by omega⟩ B r k
    dsimp only at this
    rw [this]
    show _ * row left W Z (256 * t.val + k.val) d.val = _
    unfold term
    rw [show 128 * (2 * t.val) + k.val = 256 * t.val + k.val by omega]
    rfl
  · refine Finset.sum_congr rfl fun k _ => ?_
    have := counts_apply left ⟨2 * t.val + 1, by omega⟩ B r k
    dsimp only at this
    rw [this]
    show _ * row left W Z (256 * t.val + (128 + k.val)) d.val = _
    unfold term
    rw [show 128 * (2 * t.val + 1) + k.val = 256 * t.val + (128 + k.val) by omega]
    rfl

theorem sumsAll_apply (left : BitVec 32) (W : Vec Ideal S512x128 .i32) (Z : Vec Ideal S64x128 .i32) (B : Vec Ideal S2x16x8x128 .i32)
    (r : Fin 32) (d : Fin 256) :
    sumsAll left W Z B (ix2 r d) = ∑ s ∈ Finset.range 2048, term left W Z B r.val d.val s := by
  unfold sumsAll
  refine stepSums_apply left W Z B 7 _ r d (stepSums_apply left W Z B 6 _ r d (stepSums_apply left W Z B 5 _ r d
    (stepSums_apply left W Z B 4 _ r d (stepSums_apply left W Z B 3 _ r d (stepSums_apply left W Z B 2 _ r d
    (stepSums_apply left W Z B 1 _ r d (stepSums_apply left W Z B 0 _ r d ?_)))))))
  show k0_pay7 (F := Ideal) (ix2 r d) = _
  pointwise [k0_pay7]
  rfl

/-! ## Low bytes and the rest, back together -/

theorem low_toInt (n : BitVec 32) (h : 0 ≤ n.toInt) : (IntOp.andi n 255#32).toInt = n.toInt % 256 := by
  have hn := n.isLt
  have hc := BitVec.toInt_eq_toNat_cond n
  have hk : n.toNat < 2147483648 := by split at hc <;> omega
  have e : (IntOp.andi n 255#32).toNat = n.toNat % 256 := by
    show (n &&& 255#32).toNat = _
    rw [BitVec.toNat_and]
    exact Nat.and_two_pow_sub_one_eq_mod n.toNat 8
  rw [BitVec.toInt_eq_toNat_of_lt (by rw [e]; omega), e, BitVec.toInt_eq_toNat_of_lt (by omega)]
  omega

theorem rest_toInt (n : BitVec 32) : (IntOp.shrsi .vector n 8#32).toInt = n.toInt / 256 := by
  unfold IntOp.shrsi
  rw [if_pos (by decide)]
  show (n.sshiftRight 8).toInt = _
  rw [BitVec.toInt_sshiftRight, Int.shiftRight_eq_div_pow]
  rfl

theorem f32_256 : Ideal.ofBits .f32 0x43800000#32 = ((256 : ℝ) : EReal) := by
  simp [Ideal.ofBits, Ideal.ieee, -EReal.coe_mul]; norm_num

/-- Multiplying a sum by 256. -/
theorem mul_sum_256 (n : Nat) (g : Nat → EReal) : ((256 : ℝ) : EReal) * ∑ s ∈ Finset.range n, g s = ∑ s ∈ Finset.range n, ((256 : ℝ) : EReal) * g s := by
  induction n with
  | zero => simp
  | succ n ih =>
    rw [Finset.sum_range_succ, Finset.sum_range_succ, ← ih]
    exact EReal.left_distrib_of_nonneg_of_ne_top (by exact_mod_cast (by norm_num : (0 : ℝ) ≤ 256)) (EReal.coe_ne_top _) _ _

/-- A count times a row's entry, from its low byte and the rest. -/
theorem count_split (n : BitVec 32) (h : 0 ≤ n.toInt) (x : EReal) :
    (((IntOp.andi n 255#32).toInt : ℝ) : EReal) * x + ((256 : ℝ) : EReal) * ((((IntOp.shrsi .vector n 8#32).toInt : ℝ) : EReal) * x)
      = ((n.toInt : ℝ) : EReal) * x := by
  rw [low_toInt n h, rest_toInt n, ← mul_assoc, ← EReal.coe_mul]
  have h1 : (0 : ℝ) ≤ ((n.toInt % 256 : Int) : ℝ) := by exact_mod_cast Int.emod_nonneg _ (by decide)
  have h2 : (0 : ℝ) ≤ 256 * ((n.toInt / 256 : Int) : ℝ) := by
    have : (0 : Int) ≤ n.toInt / 256 := by omega
    have : (0 : ℝ) ≤ ((n.toInt / 256 : Int) : ℝ) := by exact_mod_cast this
    positivity
  rw [← EReal.right_distrib_of_nonneg (by exact_mod_cast h1) (by exact_mod_cast h2), ← EReal.coe_add]
  congr 2
  have : n.toInt = n.toInt % 256 + 256 * (n.toInt / 256) := by omega
  exact_mod_cast this.symm

/-- What a block adds to the pooled sums. -/
theorem fold_apply (left : BitVec 32) (W : Vec Ideal S512x128 .i32) (Z : Vec Ideal S64x128 .i32) (B : Vec Ideal S2x16x8x128 .i32)
    (hB : ∀ j, 0 ≤ (B j : BitVec 32).toInt) (X : Vec Ideal S16x256 .f32) (b : Fin 16) (d : Fin 256) :
    fold (sumsAll left W Z B) X (ix2 b d) = X (ix2 b d) + ∑ s ∈ Finset.range 2048,
      uses (A := 2) (B := 16) (C := 8) (D := 128) B b.val s * row (Rw := 512) (Cw := 128) (Rz := 64) (Cz := 128) left W Z s d.val := by
  unfold fold
  pointwise
  rw [sumsAll_apply, sumsAll_apply, f32_256, mul_sum_256, ← Finset.sum_add_distrib]
  congr 1
  refine Finset.sum_congr rfl fun s _ => ?_
  unfold term part
  have hb : ¬ (16 + b.val < 16) := by omega
  dsimp only
  rw [if_pos b.isLt, if_neg hb, show 16 + b.val - 16 = b.val by omega, count_split]
  · unfold cnt uses row
    split
    · rfl
    · rw [mul_zero, mul_zero]
  · unfold cnt
    split
    · unfold at4
      split
      · exact hB _
      · decide
    · decide

end Cert.KernelIdeal.Clean

end
-- ==== Proof.KernelIdeal.Arrays.lean ====
/- The blocks a point is handed as parts of the arrays, and the pooled sums after each point as sums over all the slots so far. -/
module

public import proofs.«01_k».proof.Proof.KernelIdeal.Sums
public import proofs.«01_k».proof.Proof.KernelIdeal.Launch

@[expose] public section

noncomputable section

namespace Cert.KernelIdeal.Clean

open Idealize.ShloMosaic Idealize.ShloMosaic.TcCoe Cert.KernelIdeal Cert.KernelIdeal.Gen Cert.Bag
open Idealize.ShloMosaic.Pipeline (Dat Cfg Window)

/-! ## Blocks of arrays -/

section Block

variable (n : Nat) (nu left : BitVec 32)
  (W : Vec Ideal S25088x128 .i32) (Z : Vec Ideal S3136x128 .i32) (B : Vec Ideal S2x784x8x128 .i32)
  (Wb : Vec Ideal S512x128 .i32) (Zb : Vec Ideal S64x128 .i32) (Bb : Vec Ideal S2x16x8x128 .i32)

/-- A slot's row, from the block's words, is the row from the array's. -/
theorem row_block (hl : left.toInt = nu.toInt - 2048 * n)
    (hW : ∀ a b, a < 512 → b < 128 → at2 (R := 512) (C := 128) Wb a b = at2 (R := 25088) (C := 128) W (512 * n + a) b)
    (hZ : ∀ a b, a < 64 → b < 128 → at2 (R := 64) (C := 128) Zb a b = at2 (R := 3136) (C := 128) Z (64 * n + a) b)
    (y d : Nat) (hy : y < 2048) (hd : d < 256) :
    row (Rw := 512) (Cw := 128) (Rz := 64) (Cz := 128) left Wb Zb y d
      = row (Rw := 25088) (Cw := 128) (Rz := 3136) (Cz := 128) nu W Z (2048 * n + y) d := by
  unfold row
  rw [hW _ _ (by omega) (by omega), hZ _ _ (by omega) (by omega), show 512 * n + y / 4 = (2048 * n + y) / 4 by omega,
    show y % 4 = (2048 * n + y) % 4 by omega, show 64 * n + (4 * (y / 128) + d / 64) = 4 * ((2048 * n + y) / 128) + d / 64 by omega,
    show y % 128 = (2048 * n + y) % 128 by omega]
  exact if_congr (by rw [hl]; push_cast; omega) rfl rfl

theorem uses_block
    (hB : ∀ a j e p, j < 16 → at4 (A := 2) (B := 16) (C := 8) (D := 128) Bb a j e p = at4 (A := 2) (B := 784) (C := 8) (D := 128) B a (16 * n + j) e p)
    (b y : Nat) (hy : y < 2048) :
    uses (A := 2) (B := 16) (C := 8) (D := 128) Bb b y = uses (A := 2) (B := 784) (C := 8) (D := 128) B b (2048 * n + y) := by
  unfold uses
  rw [hB _ _ _ _ (by omega), show 16 * n + y / 128 = (2048 * n + y) / 128 by omega, show y % 128 = (2048 * n + y) % 128 by omega]

end Block

variable (m : (ℓ : Loc nD τ sig) → Buf (Elt Ideal) ℓ)

/-- The code words, -/
def codes (c : Dev nD) : Vec Ideal S25088x128 .i32 := m ((c.tc : Thread nD τ).loc main_arg1)
/-- the scale words -/
def scales (c : Dev nD) : Vec Ideal S3136x128 .i32 := m ((c.tc : Thread nD τ).loc main_arg2)
/-- and the counts. -/
def bags (c : Dev nD) : Vec Ideal S2x784x8x128 .i32 := m ((c.tc : Thread nD τ).loc main_arg3)

theorem coord_lt (t : Fin (cfgM m (hO m)).N) : t.val < 49 := t.isLt.trans_le N_0.le

theorem codesBlk_ix (c : Dev nD) (t : Fin (cfgM m (hO m)).N) (h : (2048 * t.val : Int) < (nu m).toInt) (a : Fin 512) (b : Fin 128) :
    codesBlk m c t (ix2 a b) = codes m c (ix2 ⟨512 * t.val + a.val, by have := coord_lt m t; omega⟩ b) := by
  show m ((c.tc : Thread nD τ).loc main_arg1) ((((cfgM m (hO m)).win 0).rect t).emb (ix2 a b)) = m ((c.tc : Thread nD τ).loc main_arg1) _
  refine congrArg (m ((c.tc : Thread nD τ).loc main_arg1)) ?_
  have hi : (((cfgM m (hO m)).win 0).index t) = ![(blockAt (nu m) (BitVec.ofNat 32 t.val)).toNat, 0] := by
    refine (transform_0 (tbl m) (grid0.coords t)).trans ?_
    rw [coords0]; rfl
  have hb := blockAt_live (nu m) t.val (coord_lt m t) h
  funext a'
  apply Fin.ext
  refine (Window.rect_emb_val ((cfgM m (hO m)).win 0) t (ix2 a b) a').trans ?_
  rw [hi]
  match a' with
  | ⟨0, _⟩ => show (blockAt (nu m) (BitVec.ofNat 32 t.val)).toNat * 512 + a.val = 512 * t.val + a.val; omega
  | ⟨1, _⟩ => show 0 * 128 + b.val = b.val; omega

theorem scalesBlk_ix (c : Dev nD) (t : Fin (cfgM m (hO m)).N) (h : (2048 * t.val : Int) < (nu m).toInt) (a : Fin 64) (b : Fin 128) :
    scalesBlk m c t (ix2 a b) = scales m c (ix2 ⟨64 * t.val + a.val, by have := coord_lt m t; omega⟩ b) := by
  show m ((c.tc : Thread nD τ).loc main_arg2) ((((cfgM m (hO m)).win 1).rect t).emb (ix2 a b)) = m ((c.tc : Thread nD τ).loc main_arg2) _
  refine congrArg (m ((c.tc : Thread nD τ).loc main_arg2)) ?_
  have hi : (((cfgM m (hO m)).win 1).index t) = ![(blockAt (nu m) (BitVec.ofNat 32 t.val)).toNat, 0] := by
    refine (transform_1 (tbl m) (grid0.coords t)).trans ?_
    rw [coords0]; rfl
  have hb := blockAt_live (nu m) t.val (coord_lt m t) h
  funext a'
  apply Fin.ext
  refine (Window.rect_emb_val ((cfgM m (hO m)).win 1) t (ix2 a b) a').trans ?_
  rw [hi]
  match a' with
  | ⟨0, _⟩ => show (blockAt (nu m) (BitVec.ofNat 32 t.val)).toNat * 64 + a.val = 64 * t.val + a.val; omega
  | ⟨1, _⟩ => show 0 * 128 + b.val = b.val; omega

theorem countsBlk_ix (c : Dev nD) (t : Fin (cfgM m (hO m)).N) (h : (2048 * t.val : Int) < (nu m).toInt) (a : Fin 2) (j : Fin 16) (e : Fin 8) (p : Fin 128) :
    countsBlk m c t (ix4 a j e p) = bags m c (ix4 a ⟨16 * t.val + j.val, by have := coord_lt m t; omega⟩ e p) := by
  show m ((c.tc : Thread nD τ).loc main_arg3) ((((cfgM m (hO m)).win 2).rect t).emb (ix4 a j e p)) = m ((c.tc : Thread nD τ).loc main_arg3) _
  refine congrArg (m ((c.tc : Thread nD τ).loc main_arg3)) ?_
  have hi : (((cfgM m (hO m)).win 2).index t) = ![0, (blockAt (nu m) (BitVec.ofNat 32 t.val)).toNat, 0, 0] := by
    refine (transform_2 (tbl m) (grid0.coords t)).trans ?_
    rw [coords0]; rfl
  have hb := blockAt_live (nu m) t.val (coord_lt m t) h
  funext a'
  apply Fin.ext
  refine (Window.rect_emb_val ((cfgM m (hO m)).win 2) t (ix4 a j e p) a').trans ?_
  rw [hi]
  match a' with
  | ⟨0, _⟩ => show 0 * 2 + a.val = a.val; omega
  | ⟨1, _⟩ => show (blockAt (nu m) (BitVec.ofNat 32 t.val)).toNat * 16 + j.val = 16 * t.val + j.val; omega
  | ⟨2, _⟩ => show 0 * 8 + e.val = e.val; omega
  | ⟨3, _⟩ => show 0 * 128 + p.val = p.val; omega

/-! ## The pooled sums -/

/-- A slot's part of a pooled sum. -/
def part2 (c : Dev nD) (b d s : Nat) : EReal :=
  uses (A := 2) (B := 784) (C := 8) (D := 128) (bags m c) b s
    * row (Rw := 25088) (Cw := 128) (Rz := 3136) (Cz := 128) (nu m) (codes m c) (scales m c) s d

theorem codesBlk_at (c : Dev nD) (t : Fin (cfgM m (hO m)).N) (h : (2048 * t.val : Int) < (nu m).toInt) (a b : Nat) (ha : a < 512) (hb : b < 128) :
    at2 (R := 512) (C := 128) (codesBlk m c t) a b = at2 (R := 25088) (C := 128) (codes m c) (512 * t.val + a) b := by
  have e := codesBlk_ix m c t h ⟨a, ha⟩ ⟨b, hb⟩
  have e1 := at2_ix (R := 512) (C := 128) (codesBlk m c t) ⟨a, ha⟩ ⟨b, hb⟩
  have e2 := at2_ix (R := 25088) (C := 128) (codes m c) ⟨512 * t.val + a, by have := coord_lt m t; omega⟩ ⟨b, hb⟩
  exact (e1.symm.trans e).trans e2

theorem scalesBlk_at (c : Dev nD) (t : Fin (cfgM m (hO m)).N) (h : (2048 * t.val : Int) < (nu m).toInt) (a b : Nat) (ha : a < 64) (hb : b < 128) :
    at2 (R := 64) (C := 128) (scalesBlk m c t) a b = at2 (R := 3136) (C := 128) (scales m c) (64 * t.val + a) b := by
  have e := scalesBlk_ix m c t h ⟨a, ha⟩ ⟨b, hb⟩
  have e1 := at2_ix (R := 64) (C := 128) (scalesBlk m c t) ⟨a, ha⟩ ⟨b, hb⟩
  have e2 := at2_ix (R := 3136) (C := 128) (scales m c) ⟨64 * t.val + a, by have := coord_lt m t; omega⟩ ⟨b, hb⟩
  exact (e1.symm.trans e).trans e2

theorem countsBlk_at (c : Dev nD) (t : Fin (cfgM m (hO m)).N) (h : (2048 * t.val : Int) < (nu m).toInt) (a j e p : Nat) (hj : j < 16) :
    at4 (A := 2) (B := 16) (C := 8) (D := 128) (countsBlk m c t) a j e p
      = at4 (A := 2) (B := 784) (C := 8) (D := 128) (bags m c) a (16 * t.val + j) e p := by
  by_cases hh : a < 2 ∧ e < 8 ∧ p < 128
  · have e0 := countsBlk_ix m c t h ⟨a, hh.1⟩ ⟨j, hj⟩ ⟨e, hh.2.1⟩ ⟨p, hh.2.2⟩
    have e1 := at4_ix (A := 2) (B := 16) (C := 8) (D := 128) (countsBlk m c t) ⟨a, hh.1⟩ ⟨j, hj⟩ ⟨e, hh.2.1⟩ ⟨p, hh.2.2⟩
    have e2 := at4_ix (A := 2) (B := 784) (C := 8) (D := 128) (bags m c) ⟨a, hh.1⟩ ⟨16 * t.val + j, by have := coord_lt m t; omega⟩ ⟨e, hh.2.1⟩ ⟨p, hh.2.2⟩
    exact (e1.symm.trans e0).trans e2
  · unfold at4
    rw [dif_neg fun h' => hh ⟨h'.1, h'.2.2.1, h'.2.2.2⟩, dif_neg fun h' => hh ⟨h'.1, h'.2.2.1, h'.2.2.2⟩]

/-- Past the last distinct row there are no rows. -/
theorem row_dead (v : BitVec 32) {Rw Cw Rz Cz : Nat} (W : (⟨2, ![Rw, Cw]⟩ : Shape).Idx → BitVec 32) (Z : (⟨2, ![Rz, Cz]⟩ : Shape).Idx → BitVec 32) (s d : Nat)
    (h : v.toInt ≤ s) : row v W Z s d = 0 := by
  unfold row
  exact if_neg (by omega)

/-- The count of rows left to a live point. -/
theorem left_toInt (v : BitVec 32) (n : Nat) (hn : n < 49) (h : (2048 * n : Int) < v.toInt) :
    (Scalar.subi v (Scalar.muli (BitVec.ofNat 32 n) 2048#32) : BitVec 32).toInt = v.toInt - 2048 * n := by
  show (v - BitVec.ofNat 32 n * BitVec.ofNat 32 2048).toInt = _
  rw [← BitVec.ofNat_mul]
  have hv := BitVec.toInt_eq_toNat_cond v
  have hl := v.isLt
  have h1 : (BitVec.ofNat 32 (n * 2048)).toNat = n * 2048 := by rw [BitVec.toNat_ofNat]; omega
  have h2 : v.toNat < 2147483648 ∧ n * 2048 ≤ v.toNat := by split at hv <;> omega
  have h3 : (v - BitVec.ofNat 32 (n * 2048)).toNat = v.toNat - n * 2048 := by
    rw [BitVec.toNat_sub_of_le (by rw [BitVec.le_def, h1]; omega), h1]
  rw [BitVec.toInt_eq_toNat_of_lt (by omega), h3]
  split at hv <;> omega

theorem live_iff (v : BitVec 32) (i : grid0.Coords) : k0_cond3 i v = 1#1 ↔ (2048 * (i 0).val : Int) < v.toInt := by
  rw [cond3_iff, BitVec.slt_iff_toInt_lt]
  have hi : (i 0).val < 49 := (i 0).isLt
  show (BitVec.ofNat 32 (i 0).val * BitVec.ofNat 32 2048).toInt < _ ↔ _
  rw [← BitVec.ofNat_mul, BitVec.toInt_eq_toNat_of_lt (by rw [BitVec.toNat_ofNat]; omega), BitVec.toNat_ofNat]
  omega

set_option maxRecDepth 16384 in
/-- The pooled sums before point `n`: the sums over the slots of the points before. -/
theorem poolAt_apply (c : Dev nD) (hB : ∀ j, 0 ≤ (bags m c j : BitVec 32).toInt) (b : Fin 16) (d : Fin 256) :
    ∀ (n : Nat) (h : n ≤ (cfgM m (hO m)).N), poolAt m c n h (ix2 b d) = ∑ s ∈ Finset.range (2048 * n), part2 m c b.val d.val s
  | 0, _ => by
    show k0_pay1 (F := Ideal) (ix2 b d) = _
    pointwise [k0_pay1]
    rfl
  | n + 1, h => by
    have ih := poolAt_apply c hB b d n (Nat.le_of_lt h)
    have hn : n < 49 := lt_of_lt_of_le h N_0.le
    have hX : (if k0_cond1 (grid0.coords ⟨n, h⟩) = 1#1 then k0_pay1 else poolAt m c n (Nat.le_of_lt h)) (ix2 b d)
        = ∑ s ∈ Finset.range (2048 * n), part2 m c b.val d.val s := by
      split
      · rename_i h1
        have : n = 0 := by
          have := (cond1_iff _).mp h1
          rw [coords0] at this; exact this
        subst this
        pointwise [k0_pay1]
        rfl
      · exact ih
    rw [show 2048 * (n + 1) = 2048 * n + 2048 by omega, Finset.sum_range_add]
    show poolNext (grid0.coords ⟨n, h⟩) (nu m) (codesBlk m c ⟨n, h⟩) (scalesBlk m c ⟨n, h⟩) (countsBlk m c ⟨n, h⟩) (poolAt m c n (Nat.le_of_lt h)) (ix2 b d) = _
    unfold poolNext
    by_cases hl : (2048 * n : Int) < (nu m).toInt
    · rw [if_pos ((live_iff _ _).mpr (by rw [coords0]; exact hl)), fold_apply _ _ _ _ (fun j => ?_), hX]
      · congr 1
        refine Finset.sum_congr rfl fun s hs => ?_
        have hs' := Finset.mem_range.mp hs
        unfold part2
        rw [row_block n (nu m) _ (codes m c) (scales m c) _ _ (by rw [coords0]; exact left_toInt _ n hn hl)
            (fun a b ha hb => codesBlk_at m c ⟨n, h⟩ hl a b ha hb) (fun a b ha hb => scalesBlk_at m c ⟨n, h⟩ hl a b ha hb) s d.val hs' d.isLt,
          uses_block n (bags m c) _ (fun a j e p hj => countsBlk_at m c ⟨n, h⟩ hl a j e p hj) b.val s hs']
      · have : j = ix4 (j 0) (j 1) (j 2) (j 3) := by
          funext a; match a with | ⟨0, _⟩ => rfl | ⟨1, _⟩ => rfl | ⟨2, _⟩ => rfl | ⟨3, _⟩ => rfl
        rw [this]
        have e := countsBlk_ix m c ⟨n, h⟩ hl (j 0) (j 1) (j 2) (j 3)
        exact (congrArg BitVec.toInt e).symm ▸ hB _
    · rw [if_neg (fun h' => hl (by have := (live_iff _ _).mp h'; rw [coords0] at this; exact this)), hX]
      have h0 : ∑ s ∈ Finset.range 2048, part2 m c b.val d.val (2048 * n + s) = 0 := by
        refine Finset.sum_eq_zero fun s _ => ?_
        unfold part2
        rw [row_dead _ _ _ _ _ (by push_cast; omega), mul_zero]
      rw [h0, add_zero]

set_option maxRecDepth 16384 in
/-- The rows a point stores. -/
theorem blockRows_apply (c : Dev nD) (t : Fin (cfgM m (hO m)).N) (y : Fin 2048) (d : Fin 256) :
    blockRows (grid0.coords t) (nu m) (codesBlk m c t) (scalesBlk m c t) (ix2 y d)
      = row (Rw := 25088) (Cw := 128) (Rz := 3136) (Cz := 128) (nu m) (codes m c) (scales m c) (2048 * t.val + y.val) d.val := by
  have hn := coord_lt m t
  unfold blockRows
  by_cases hl : (2048 * t.val : Int) < (nu m).toInt
  · rw [if_pos ((live_iff _ _).mpr (by rw [coords0]; exact hl))]
    have hr : ∀ left : BitVec 32, left.toInt = (nu m).toInt - 2048 * t.val →
        rowsAll left (codesBlk m c t) (scalesBlk m c t) (ix2 y d)
          = row (Rw := 25088) (Cw := 128) (Rz := 3136) (Cz := 128) (nu m) (codes m c) (scales m c) (2048 * t.val + y.val) d.val := fun left hleft => by
      rw [rowsAll_apply]
      exact row_block t.val (nu m) left (codes m c) (scales m c) _ _ hleft
        (fun a b ha hb => codesBlk_at m c t hl a b ha hb) (fun a b ha hb => scalesBlk_at m c t hl a b ha hb) y.val d.val y.isLt d.isLt
    have hleft := left_toInt (nu m) t.val hn hl
    rw [coords0]
    split
    · unfold k0_pay4
      pointwise
      rw [hr _ hleft]
      rw [select_slt _ (by omega), hleft]
      split
      · rfl
      · exact (row_dead _ _ _ _ _ (by push_cast; omega)).symm
    · exact hr _ hleft
  · rw [if_neg (fun h' => hl (by have := (live_iff _ _).mp h'; rw [coords0] at this; exact this))]
    rw [row_dead _ _ _ _ _ (by push_cast; omega)]
    pointwise [k0_pay2]

/-! ## The two results -/

/-- The rows the call leaves, -/
def outRows (c : Dev nD) : Vec Ideal S100000x256 .bf16 := fun i =>
  row (Rw := 25088) (Cw := 128) (Rz := 3136) (Cz := 128) (nu m) (codes m c) (scales m c) (i 0).val (i 1).val
/-- and the pooled sums. -/
def outPool (c : Dev nD) : Vec Ideal S16x256 .f32 := fun i => ∑ s ∈ Finset.range 100352, part2 m c (i 0).val (i 1).val s

theorem index3 (t : Fin (cfgM m (hO m)).N) : ((cfgM m (hO m)).win 3).index t = ![t.val, 0] := by
  have hn := coord_lt m t
  show cc0_transform_3 (grid0.coords t) = _
  unfold cc0_transform_3
  funext a
  match a with
  | ⟨0, _⟩ => show (BitVec.ofNat 32 ((grid0.coords t) 0).val).toNat = t.val; rw [coords0, BitVec.toNat_ofNat]; omega
  | ⟨1, _⟩ => rfl

theorem flushed3 (c : Dev nD) (t : Fin (cfgM m (hO m)).N) (hf : ((cfgM m (hO m)).win 3).flush t = true) :
    (dats m 0 c).flushed 3 t = (((cfgM m (hO m)).win 3).blk t).view.read (Elt Ideal) (outRows m c) := by
  funext y
  show (dats m 0 c).after 3 t (((cfgM m (hO m)).win 3).xinj ((cfgM m (hO m)).grid.coords t) y) = outRows m c ((((cfgM m (hO m)).win 3).rect t).emb y)
  have e0 : ((((((cfgM m (hO m)).win 3).rect t).emb y) (0 : Fin 2) : Fin 100000) : Nat) = 2048 * t.val + (y (0 : Fin 2)).val := by
    refine (Window.rect_emb_val ((cfgM m (hO m)).win 3) t y (0 : Fin 2)).trans ?_
    rw [index3]
    show t.val * 2048 + _ = _
    omega
  have e1 : ((((((cfgM m (hO m)).win 3).rect t).emb y) (1 : Fin 2) : Fin 256) : Nat) = (y (1 : Fin 2)).val := by
    refine (Window.rect_emb_val ((cfgM m (hO m)).win 3) t y (1 : Fin 2)).trans ?_
    rw [index3]
    show 0 * 256 + _ = _
    omega
  unfold outRows
  rw [e0, e1]
  have hy : ((cfgM m (hO m)).win 3).xinj ((cfgM m (hO m)).grid.coords t) y
      = ix2 (⟨(y (0 : Fin 2)).val, (((cfgM m (hO m)).win 3).xinj ((cfgM m (hO m)).grid.coords t) y (0 : Fin 2)).isLt⟩ : Fin 2048)
          (⟨(y (1 : Fin 2)).val, (((cfgM m (hO m)).win 3).xinj ((cfgM m (hO m)).grid.coords t) y (1 : Fin 2)).isLt⟩ : Fin 256) := by
    funext a
    match a with
    | ⟨0, _⟩ => rfl
    | ⟨1, _⟩ => rfl
  exact (congrArg (blockRows (grid0.coords t) (nu m) (codesBlk m c t) (scalesBlk m c t)) hy).trans (blockRows_apply m c t _ _)

theorem lt_extent {ix k d x : Nat} (h1 : x < d) (h2 : x < ix * k + k) : x < ix * k + (Pipeline.Clip.of ix k d).extent k := by
  unfold Pipeline.Clip.of
  split
  · exact h2
  · show x < ix * k + (d - ix * k)
    omega

theorem cover3 (i : S100000x256.Idx) :
    ∃ t : Fin (cfgM m (hO m)).N, ((cfgM m (hO m)).win 3).flush t = true ∧ i ∈ (((cfgM m (hO m)).win 3).blk t).view.set := by
  have h0 : (i 0 : Nat) < 100000 := (i 0).isLt
  have h1 : (i 1 : Nat) < 256 := (i 1).isLt
  have hN : (cfgM m (hO m)).N = 49 := N_0
  have ht : (i 0 : Nat) / 2048 < (cfgM m (hO m)).N := by omega
  refine ⟨⟨(i 0 : Nat) / 2048, ht⟩, flush0_3 (adm m (hO m)) _, ?_⟩
  show i ∈ ((View.whole main_v0_0).slice (((cfgM m (hO m)).win 3).rect ⟨(i 0 : Nat) / 2048, ht⟩)).set
  refine (congrArg (i ∈ ·) (View.set_slice_whole _ _)).mpr (Rect.mem_set_unit.mpr ?_)
  have hi : cc0_transform_3 ((cfgM m (hO m)).grid.coords ⟨(i 0 : Nat) / 2048, ht⟩) = ![(i 0 : Nat) / 2048, 0] := index3 m ⟨(i 0 : Nat) / 2048, ht⟩
  intro a
  match a with
  | ⟨0, _⟩ =>
    show cc0_transform_3 ((cfgM m (hO m)).grid.coords ⟨(i 0 : Nat) / 2048, ht⟩) 0 * 2048 ≤ (i 0 : Nat)
      ∧ (i 0 : Nat) < cc0_transform_3 ((cfgM m (hO m)).grid.coords ⟨(i 0 : Nat) / 2048, ht⟩) 0 * 2048
        + (Pipeline.Clip.of (cc0_transform_3 ((cfgM m (hO m)).grid.coords ⟨(i 0 : Nat) / 2048, ht⟩) 0) 2048 100000).extent 2048
    rw [hi]
    exact ⟨by show (i 0 : Nat) / 2048 * 2048 ≤ _; omega, lt_extent h0 (by show _ < (i 0 : Nat) / 2048 * 2048 + 2048; omega)⟩
  | ⟨1, _⟩ =>
    show cc0_transform_3 ((cfgM m (hO m)).grid.coords ⟨(i 0 : Nat) / 2048, ht⟩) 1 * 256 ≤ (i 1 : Nat)
      ∧ (i 1 : Nat) < cc0_transform_3 ((cfgM m (hO m)).grid.coords ⟨(i 0 : Nat) / 2048, ht⟩) 1 * 256
        + (Pipeline.Clip.of (cc0_transform_3 ((cfgM m (hO m)).grid.coords ⟨(i 0 : Nat) / 2048, ht⟩) 1) 256 256).extent 256
    rw [hi]
    exact ⟨by show 0 * 256 ≤ _; omega, lt_extent h1 (by show _ < 0 * 256 + 256; omega)⟩

theorem final3 (c : Dev nD) : (dats m 0 c).arrAt 3 (cfgM m (hO m)).N = outRows m c :=
  (dats m 0 c).arrAt_eq_of_cover 3 (outRows m c) (flushed3 m c) (cover3 m)

theorem flushed4 (c : Dev nD) (hB : ∀ j, 0 ≤ (bags m c j : BitVec 32).toInt) (t : Fin (cfgM m (hO m)).N) (hf : ((cfgM m (hO m)).win 4).flush t = true) :
    (dats m 0 c).flushed 4 t = (((cfgM m (hO m)).win 4).blk t).view.read (Elt Ideal) (outPool m c) := by
  have ht : t.val + 1 = 49 := by
    have := (flush0_4 (adm m (hO m)) t).mp hf
    have := coord_lt m t
    omega
  funext y
  have key : ∀ G : Vec Ideal S16x256 .f32, (((cfgM m (hO m)).win 4).blk t).view.read (Elt Ideal) G y = G ((((cfgM m (hO m)).win 4).rect t).emb y) := fun _ => rfl
  refine Eq.trans ?_ (key (outPool m c)).symm
  have key' : (dats m 0 c).flushed 4 t y = (dats m 0 c).after 4 t (((cfgM m (hO m)).win 4).xinj ((cfgM m (hO m)).grid.coords t) y) := rfl
  refine key'.trans ?_
  obtain ⟨r, d, hy, hr, hd⟩ : ∃ (r : Fin 16) (d : Fin 256), ((cfgM m (hO m)).win 4).xinj ((cfgM m (hO m)).grid.coords t) y = ix2 r d
      ∧ r.val = (y (0 : Fin 2)).val ∧ d.val = (y (1 : Fin 2)).val := by
    refine ⟨⟨(y (0 : Fin 2)).val, (((cfgM m (hO m)).win 4).xinj ((cfgM m (hO m)).grid.coords t) y (0 : Fin 2)).isLt⟩,
      ⟨(y (1 : Fin 2)).val, (((cfgM m (hO m)).win 4).xinj ((cfgM m (hO m)).grid.coords t) y (1 : Fin 2)).isLt⟩, ?_, rfl, rfl⟩
    funext a
    match a with
    | ⟨0, _⟩ => rfl
    | ⟨1, _⟩ => rfl
  have e0 : ((((((cfgM m (hO m)).win 4).rect t).emb y) (0 : Fin 2) : Fin 16) : Nat) = r.val :=
    (Window.rect_emb_val ((cfgM m (hO m)).win 4) t y (0 : Fin 2)).trans (by rw [hr]; show 0 * 16 + _ = _; omega)
  have e1 : ((((((cfgM m (hO m)).win 4).rect t).emb y) (1 : Fin 2) : Fin 256) : Nat) = d.val :=
    (Window.rect_emb_val ((cfgM m (hO m)).win 4) t y (1 : Fin 2)).trans (by rw [hd]; show 0 * 256 + _ = _; omega)
  unfold outPool
  rw [e0, e1]
  have hp := poolAt_apply m c hB r d (t.val + 1) t.isLt
  rw [show 2048 * (t.val + 1) = 100352 by omega] at hp
  rw [← hp]
  refine (congrFun (after0_4 m c t) _).trans ?_
  exact congrArg (poolAt m c (t.val + 1) t.isLt) hy

theorem cover4 (i : S16x256.Idx) :
    ∃ t : Fin (cfgM m (hO m)).N, ((cfgM m (hO m)).win 4).flush t = true ∧ i ∈ (((cfgM m (hO m)).win 4).blk t).view.set := by
  have hN : (cfgM m (hO m)).N = 49 := N_0
  have ht : 48 < (cfgM m (hO m)).N := by omega
  refine ⟨⟨48, ht⟩, (flush0_4 (adm m (hO m)) _).mpr rfl, ?_⟩
  show i ∈ ((View.whole main_v0_1).slice (((cfgM m (hO m)).win 4).rect ⟨48, ht⟩)).set
  refine (congrArg (i ∈ ·) (View.set_slice_whole _ _)).mpr (Rect.mem_set_unit.mpr ?_)
  have h0 : (i 0 : Nat) < 16 := (i 0).isLt
  have h1 : (i 1 : Nat) < 256 := (i 1).isLt
  intro a
  match a with
  | ⟨0, _⟩ => show 0 * 16 ≤ (i 0 : Nat) ∧ (i 0 : Nat) < 0 * 16 + 16; omega
  | ⟨1, _⟩ => show 0 * 256 ≤ (i 1 : Nat) ∧ (i 1 : Nat) < 0 * 256 + 256; omega

theorem final4 (c : Dev nD) (hB : ∀ j, 0 ≤ (bags m c j : BitVec 32).toInt) : (dats m 0 c).arrAt 4 (cfgM m (hO m)).N = outPool m c :=
  (dats m 0 c).arrAt_eq_of_cover 4 (outPool m c) (flushed4 m c hB) (cover4 m)

/-- The run, read: of counts that are not negative the pooled sums and the rows, the arguments unchanged. -/
theorem run (ρ : Dev nD → PrngReg) (hB : ∀ c j, 0 ≤ (bags m c j : BitVec 32).toInt) :
    θ_run defs (onTc (τ := τ) (main (F := Ideal))) ⟨m, fun _ => 0, ρ⟩ fun r => ∀ c : Dev nD,
      r.2.mem ((c.tc : Thread nD τ).loc main_v0_1) = outPool m c
      ∧ r.2.mem ((c.tc : Thread nD τ).loc main_v0_0) = outRows m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 4).trans (final4 m c (hB c)), ((h.1 c).1 3).trans (final3 m c), h.2.1 c⟩)
    (θ_run_and (run_main m ρ) (frame m ρ))

end Cert.KernelIdeal.Clean

end
-- ==== Proof.RefValues.lean ====
/- The reference's two results, entry by entry. -/
module

public import proofs.«01_k».proof.Proof.Spec
public import proofs.«01_k».proof.Proof.Gen.ReferenceIdeal.Run
public import Idealize.ShloMosaic.Lib.Pointwise

@[expose] public section

noncomputable section

namespace Cert.ReferenceIdeal.Read

open Cert.ReferenceIdeal Cert.ReferenceIdeal.Gen Cert.ReferenceIdeal.Value Cert.Bag Idealize.ShloMosaic Idealize.ShloMosaic.TcCoe Idealize.ShloMosaic.StableHlo

section Terms

variable {F : FTy → Type} [FloatOps F]

/-- The bytes of the code words, one row to a slot. -/
def bytes (W : IVec S25088x128 32) : IVec S100352x128 32 :=
  shapeCast _ (andi (Host.shrsi (broadcastInDim S25088x4x128 ![0, 1, 2] bcast_S25088x1x128_S25088x4x128_0_1_2 (broadcastInDim S25088x1x128 ![0, 2] bcast_S25088x128_S25088x1x128_0_2 W)) (broadcastInDim S25088x4x128 ![0, 1, 2] bcast_S1x4x1_S25088x4x128_0_1_2 (broadcastInDim S1x4x1 ![1] bcast_S4_S1x4x1_1 (muli (broadcastInDim S4 ![] bcast_S_S4 (constantI S_ 32 8#32)) (iotaInDim S4 32 0))))) (broadcastInDim S25088x4x128 ![] bcast_S_S25088x4x128 (constantI S_ 32 255#32))) shapeCasts_S25088x4x128_S100352x128

/-- The scales, eight to a slot. -/
def scales (Z : IVec S3136x128 32) : FVec F S100352x8 .bf16 :=
  shapeCast _ (transpose S784x128x8 [0, 2, 1] (shapeCast _ (bitcastToFloat (F := F) .bf16 (trunci 16 (andi (Host.shrsi (broadcastInDim S784x4x2x128 ![0, 1, 2, 3] bcast_S784x4x1x128_S784x4x2x128_0_1_2_3 (shapeCast _ Z shapeCasts_S3136x128_S784x4x1x128)) (broadcastInDim S784x4x2x128 ![0, 1, 2, 3] bcast_S1x1x2x1_S784x4x2x128_0_1_2_3 (broadcastInDim S1x1x2x1 ![2] bcast_S2_S1x1x2x1_2 (muli (broadcastInDim S2 ![] bcast_S_S2 (constantI S_ 32 16#32)) (iotaInDim S2 32 0))))) (broadcastInDim S784x4x2x128 ![] bcast_S_S784x4x2x128 (constantI S_ 32 65535#32))) natLt_16_32)) shapeCasts_S784x4x2x128_S784x8x128) transposes_S784x8x128_S784x128x8_0_2_1) shapeCasts_S784x128x8_S100352x8

/-- Four-bit codes as signed numbers. -/
def signed (n : IVec S100352x128 32) : IVec S100352x128 32 :=
  subi n (muli (broadcastInDim S100352x128 ![] bcast_S_S100352x128 (constantI S_ 32 16#32)) (extui 32 (cmpi .sge n (broadcastInDim S100352x128 ![] bcast_S_S100352x128 (constantI S_ 32 8#32))) natLt_1_32))

/-- Codes times scales. -/
def scaled (n : IVec S100352x128 32) (sc : FVec F S100352x8 .bf16) : FVec F S100352x8x16x1 .bf16 :=
  broadcastInDim S100352x8x16x1 ![0, 1, 2] bcast_S100352x8x16_S100352x8x16x1_0_1_2 (mulf (shapeCast _ (sitofp .bf16 (signed n)) shapeCasts_S100352x128_S100352x8x16) (broadcastInDim S100352x8x16 ![0, 1, 2] bcast_S100352x8x1_S100352x8x16_0_1_2 (broadcastInDim S100352x8x1 ![0, 1] bcast_S100352x8_S100352x8x1_0_1 sc)))

/-- The decoded rows of all slots, zero from the count on. -/
def rows (nu : IVec S16 32) (lo hi : FVec F S100352x8x16x1 .bf16) : FVec F S100352x256 .bf16 :=
  select (broadcastInDim S100352x256 ![0, 1] bcast_S100352x1_S100352x256_0_1 (broadcastInDim S100352x1 ![0] bcast_S100352_S100352x1_0 (cmpi .slt (iotaInDim S100352 32 0) (broadcastInDim S100352 ![] bcast_S_S100352 (shapeCast _ (extractStridedSlice S1 ![0] nu slices_S16_S1_0) shapeCasts_S1_S_))))) (shapeCast _ (concatenate S100352x8x16x2 3 [⟨S100352x8x16x1, lo⟩, ⟨S100352x8x16x1, hi⟩] concatenates_S100352x8x16x1_S100352x8x16x1_S100352x8x16x2_d3) shapeCasts_S100352x8x16x2_S100352x256) (broadcastInDim S100352x256 ![] bcast_S_S100352x256 (constant S_ .bf16 0x0000#16))

/-- The rows from the arguments. -/
def allRows (nu : IVec S16 32) (W : IVec S25088x128 32) (Z : IVec S3136x128 32) : FVec F S100352x256 .bf16 :=
  rows nu (scaled (andi (bytes W) (broadcastInDim S100352x128 ![] bcast_S_S100352x128 (constantI S_ 32 15#32))) (scales Z))
    (scaled (Host.shrsi (bytes W) (broadcastInDim S100352x128 ![] bcast_S_S100352x128 (constantI S_ 32 4#32))) (scales Z))

variable (m : (ℓ : Loc nD τ sig) → Buf (Elt F) ℓ)

theorem out0_eq (c : Dev nD) : res_main_v67 m c =
    Host.dotGeneral dot_S16x100352_S100352x256_S16x256_1_0_0_1_n_n (some .fp32) (sitofp .f32 (shapeCast _ (transpose S2x8x784x128 [0, 2, 1, 3] (m ((c.tc : Thread nD τ).loc main_arg3)) transposes_S2x784x8x128_S2x8x784x128_0_2_1_3) shapeCasts_S2x8x784x128_S16x100352))
      (extf .f32 (allRows (m ((c.tc : Thread nD τ).loc main_arg0)) (m ((c.tc : Thread nD τ).loc main_arg1)) (m ((c.tc : Thread nD τ).loc main_arg2))) bitsLt_bf16_f32) := rfl

theorem out1_eq (c : Dev nD) : res_main_v68 m c =
    extractStridedSlice S100000x256 ![0, 0] (allRows (m ((c.tc : Thread nD τ).loc main_arg0)) (m ((c.tc : Thread nD τ).loc main_arg1)) (m ((c.tc : Thread nD τ).loc main_arg2))) slices_S100352x256_S100000x256_0_0 := rfl

end Terms

variable (nu : IVec S16 32) (W : IVec S25088x128 32) (Z : IVec S3136x128 32)

/-! ## Fields of words -/

theorem shr_byte (w : BitVec 32) (q : Nat) (hq : q < 4) :
    IntOp.shrsi .host w (IntOp.muli 8#32 (BitVec.ofNat 32 q)) = w.sshiftRight (8 * q) := by
  interval_cases q <;> rfl

theorem shr_half (w : BitVec 32) (q : Nat) (hq : q < 2) :
    IntOp.shrsi .host w (IntOp.muli 16#32 (BitVec.ofNat 32 q)) = w.sshiftRight (16 * q) := by
  interval_cases q <;> rfl

theorem byte_field (w : BitVec 32) (k : Nat) (hk : k + 8 ≤ 32) :
    IntOp.andi (w.sshiftRight k) 255#32 = (w.extractLsb' k 8).setWidth 32 := by
  show w.sshiftRight k &&& 255#32 = _
  apply BitVec.eq_of_getLsbD_eq
  intro i hi
  have h255 : (255#32).getLsbD i = decide (i < 8) := by interval_cases i <;> rfl
  rw [BitVec.getLsbD_and, h255, BitVec.getLsbD_setWidth, BitVec.getLsbD_extractLsb', BitVec.getLsbD_sshiftRight]
  by_cases h8 : i < 8
  · rw [if_pos (by omega)]
    simp [h8, hi]
  · simp [h8]

theorem half_field (w : BitVec 32) (k : Nat) (hk : k + 16 ≤ 32) :
    BitVec.setWidth 16 (IntOp.andi (w.sshiftRight k) 65535#32) = w.extractLsb' k 16 := by
  show BitVec.setWidth 16 (w.sshiftRight k &&& 65535#32) = _
  apply BitVec.eq_of_getLsbD_eq
  intro i hi
  have h65535 : (65535#32).getLsbD i = true := by interval_cases i <;> rfl
  rw [BitVec.getLsbD_setWidth, BitVec.getLsbD_and, h65535, BitVec.getLsbD_extractLsb', BitVec.getLsbD_sshiftRight, if_pos (by omega)]
  simp [hi]; omega

theorem signed_low : ∀ b : BitVec 8, (IntOp.subi (IntOp.andi (b.setWidth 32) 15#32)
    (IntOp.muli 16#32 (BitVec.setWidth 32 (IntOp.cmpi .sge (IntOp.andi (b.setWidth 32) 15#32) 8#32)))).toInt = (b.extractLsb' 0 4).toInt := by
  decide +kernel

theorem signed_high : ∀ b : BitVec 8, (IntOp.subi (IntOp.shrsi .host (b.setWidth 32) 4#32)
    (IntOp.muli 16#32 (BitVec.setWidth 32 (IntOp.cmpi .sge (IntOp.shrsi .host (b.setWidth 32) 4#32) 8#32)))).toInt = (b.extractLsb' 4 4).toInt := by
  decide +kernel

theorem nibble_of_byte (w : BitVec 32) (k j : Nat) (hj : j + 4 ≤ 8) : (w.extractLsb' k 8).extractLsb' j 4 = w.extractLsb' (k + j) 4 := by
  apply BitVec.eq_of_getLsbD_eq
  intro i hi
  rw [BitVec.getLsbD_extractLsb', BitVec.getLsbD_extractLsb', BitVec.getLsbD_extractLsb', show k + (j + i) = k + j + i by omega]
  have : j + i < 8 := by omega
  simp [hi, this]

/-! ## The parts -/

set_option maxRecDepth 16384 in
theorem bytes_apply (s : Fin 100352) (j : Fin 128) :
    bytes W (ix2 s j) = ((at2 (R := 25088) (C := 128) W (s.val / 4) j.val).extractLsb' (8 * (s.val % 4)) 8).setWidth 32 := by
  pointwise [bytes]
  rw [shr_byte _ _ (by omega), byte_field _ _ (by omega)]
  exact congrArg (fun w : BitVec 32 => (w.extractLsb' (8 * (s.val % 4)) 8).setWidth 32) (at2_ix (R := 25088) (C := 128) W _ _)

set_option maxRecDepth 16384 in
theorem scales_apply (s : Fin 100352) (g : Fin 8) :
    scales (F := Ideal) Z (ix2 s g) = scale (at2 (R := 3136) (C := 128) Z (4 * (s.val / 128) + g.val / 2) (s.val % 128)) (g.val % 2) := by
  pointwise [scales]
  rw [shr_half _ _ (by omega), half_field _ _ (by omega)]
  unfold scale
  rw [show 4 * (s.val / 128) + g.val / 2 = s.val / 128 * 4 + g.val / 2 by omega]
  exact congrArg (fun w : BitVec 32 => Ideal.ofBits .bf16 (w.extractLsb' (16 * (g.val % 2)) 16)) (at2_ix (R := 3136) (C := 128) Z _ _)

set_option maxRecDepth 16384 in
theorem scaled_apply (n : IVec S100352x128 32) (sc : FVec Ideal S100352x8 .bf16) (s : Fin 100352) (g : Fin 8) (j : Fin 16) (z : Fin 1) :
    scaled n sc (ix4 s g j z)
      = (((IntOp.subi (n (ix2 s ⟨g.val * 16 + j.val, by omega⟩)) (IntOp.muli 16#32 (BitVec.setWidth 32 (IntOp.cmpi .sge (n (ix2 s ⟨g.val * 16 + j.val, by omega⟩)) 8#32)))).toInt : ℝ) : EReal)
        * sc (ix2 s g) := by
  obtain rfl : z = 0 := Subsingleton.elim _ _
  pointwise [scaled, signed]
  rfl

set_option maxRecDepth 16384 in
theorem allRows_apply (s : Fin 100352) (d : Fin 256) :
    allRows (F := Ideal) nu W Z (ix2 s d) = row (Rw := 25088) (Cw := 128) (Rz := 3136) (Cz := 128) (nu (ix1 0)) W Z s.val d.val := by
  unfold allRows
  pointwise [rows]
  rw [select_slt _ (by omega)]
  unfold row
  refine if_congr Iff.rfl ?_ rfl
  have hj : d.val / 32 * 16 + d.val / 2 % 16 = d.val / 2 := by omega
  unfold val nib
  split
  · rename_i h
    rw [scaled_apply, scales_apply]
    have e : (andi (bytes W) (broadcastInDim S100352x128 ![] bcast_S_S100352x128 (constantI S_ 32 15#32))) (ix2 s ⟨d.val / 32 * 16 + d.val / 2 % 16, by omega⟩)
        = IntOp.andi (((at2 (R := 25088) (C := 128) W (s.val / 4) (d.val / 2)).extractLsb' (8 * (s.val % 4)) 8).setWidth 32) 15#32 := by
      pointwise
      rw [bytes_apply]
      dsimp only
      rw [hj]
    rw [e, signed_low, nibble_of_byte _ _ _ (by omega), show 8 * (s.val % 4) + 0 = 4 * (2 * (s.val % 4) + d.val % 2) by omega,
      show d.val / 32 / 2 = d.val / 64 by omega]
  · rename_i h
    rw [scaled_apply, scales_apply]
    have e : (Host.shrsi (bytes W) (broadcastInDim S100352x128 ![] bcast_S_S100352x128 (constantI S_ 32 4#32))) (ix2 s ⟨d.val / 32 * 16 + d.val / 2 % 16, by omega⟩)
        = IntOp.shrsi .host (((at2 (R := 25088) (C := 128) W (s.val / 4) (d.val / 2)).extractLsb' (8 * (s.val % 4)) 8).setWidth 32) 4#32 := by
      pointwise
      rw [bytes_apply]
      dsimp only
      rw [hj]
    rw [e, signed_high, nibble_of_byte _ _ _ (by omega), show 8 * (s.val % 4) + 4 = 4 * (2 * (s.val % 4) + d.val % 2) by omega,
      show d.val / 32 / 2 = d.val / 64 by omega]

set_option maxRecDepth 16384 in
theorem pool_apply (B : IVec S2x784x8x128 32) (x : FVec Ideal S100352x256 .bf16) (b : Fin 16) (d : Fin 256) :
    Host.dotGeneral dot_S16x100352_S100352x256_S16x256_1_0_0_1_n_n (some .fp32) (sitofp .f32 (shapeCast _ (transpose S2x8x784x128 [0, 2, 1, 3] B transposes_S2x784x8x128_S2x8x784x128_0_2_1_3) shapeCasts_S2x8x784x128_S16x100352))
      (extf .f32 x bitsLt_bf16_f32) (ix2 b d) = ∑ s : Fin 100352, uses (A := 2) (B := 784) (C := 8) (D := 128) B b.val s.val * x (ix2 s d) := by
  pointwise
  refine Finset.sum_congr rfl fun s _ => ?_
  congr 1
  exact congrArg (fun w : BitVec 32 => (((w.toInt : ℝ) : EReal))) (at4_ix (A := 2) (B := 784) (C := 8) (D := 128) B _ _ _ _)

variable (m : (ℓ : Loc nD τ sig) → Buf (Elt Ideal) ℓ)

set_option maxRecDepth 16384 in
/-- The rows result. -/
theorem out1_apply (c : Dev nD) (i : Fin 100000) (d : Fin 256) :
    (res_main_v68 m c : FVec Ideal S100000x256 .bf16) (ix2 i d)
      = row (Rw := 25088) (Cw := 128) (Rz := 3136) (Cz := 128) ((m ((c.tc : Thread nD τ).loc main_arg0) : IVec S16 32) (ix1 0))
          (m ((c.tc : Thread nD τ).loc main_arg1)) (m ((c.tc : Thread nD τ).loc main_arg2)) i.val d.val := by
  rw [out1_eq]
  generalize hR : allRows (F := Ideal) (m ((c.tc : Thread nD τ).loc main_arg0)) (m ((c.tc : Thread nD τ).loc main_arg1)) (m ((c.tc : Thread nD τ).loc main_arg2)) = x
  have : extractStridedSlice S100000x256 ![0, 0] x slices_S100352x256_S100000x256_0_0 (ix2 i d) = x (ix2 ⟨i.val, by omega⟩ d) := by
    pointwise
  refine this.trans ?_
  rw [← hR]
  exact allRows_apply _ _ _ ⟨i.val, by omega⟩ d

set_option maxRecDepth 16384 in
/-- The pooled result. -/
theorem out0_apply (c : Dev nD) (b : Fin 16) (d : Fin 256) :
    (res_main_v67 m c : FVec Ideal S16x256 .f32) (ix2 b d)
      = ∑ s ∈ Finset.range 100352, uses (A := 2) (B := 784) (C := 8) (D := 128) (m ((c.tc : Thread nD τ).loc main_arg3)) b.val s
          * row (Rw := 25088) (Cw := 128) (Rz := 3136) (Cz := 128) ((m ((c.tc : Thread nD τ).loc main_arg0) : IVec S16 32) (ix1 0))
          (m ((c.tc : Thread nD τ).loc main_arg1)) (m ((c.tc : Thread nD τ).loc main_arg2)) s d.val := by
  rw [out0_eq, Finset.sum_range]
  refine (pool_apply _ _ b d).trans (Finset.sum_congr rfl fun s _ => ?_)
  rw [allRows_apply]

end Cert.ReferenceIdeal.Read

end
-- ==== Proof.Claims.lean ====
/- The kernel's results are the reference's, of counts that are not negative. -/
module

public import proofs.«01_k».proof.Defs
public import proofs.«01_k».proof.Proof.KernelIdeal.Arrays
public import proofs.«01_k».proof.Proof.RefValues
public import proofs.«01_k».proof.Proof.Gen.Pre_counts_not_negative
public import Idealize.ShloMosaic.Lib.ReduceAll

@[expose] public section

noncomputable section

namespace Cert.Bag

open Idealize.ShloMosaic Idealize.ShloMosaic.TcCoe Idealize.ShloMosaic.StableHlo Idealize.SL.Sem

/-- The precondition, read: no count is negative. -/
theorem counts_nonneg (a0 : IVec Cert.Pre_counts_not_negative.S16 32) (a1 : IVec Cert.Pre_counts_not_negative.S25088x128 32)
    (a2 : IVec Cert.Pre_counts_not_negative.S3136x128 32) (B : IVec Cert.Pre_counts_not_negative.S2x784x8x128 32)
    (h : Cert.Pre_counts_not_negative.fn (F := Ideal) a0 a1 a2 B = fun _ => 1#1) (j : Cert.Pre_counts_not_negative.S2x784x8x128.Idx) :
    0 ≤ (B j).toInt := by
  unfold Cert.Pre_counts_not_negative.fn at h
  dsimp only at h
  haveI : Subsingleton Cert.Pre_counts_not_negative.S_.Idx := ⟨fun a b => funext fun k => k.elim0⟩
  have e := Host.reduce_andi_all _ _ _ _ (fun k => k.elim0) (congrFun h fun k => k.elim0) j
  have e' : IntOp.cmpi .sge (B j) 0#32 = 1#1 := e
  by_contra hn
  have h0 : (0#32).sle (B j) = false := by
    rw [Bool.eq_false_iff, Ne, BitVec.sle_iff_toInt_le]
    simpa using hn
  have : IntOp.cmpi .sge (B j) 0#32 = 0#1 := by
    show BitVec.ofBool ((0#32).sle (B j)) = _
    rw [h0]; rfl
  rw [this] at e'
  exact absurd e' (by decide)

/-- The count of distinct rows the kernel goes by is the first word of its first argument. -/
theorem nu_eq (m : (ℓ : Loc Cert.KernelIdeal.nD Cert.KernelIdeal.τ Cert.KernelIdeal.sig) → Buf (Elt Ideal) ℓ) (c : Dev Cert.KernelIdeal.nD) :
    Cert.KernelIdeal.Clean.nu m = (m ((c.tc : Thread Cert.KernelIdeal.nD Cert.KernelIdeal.τ).loc Cert.KernelIdeal.main_arg0) : IVec Cert.KernelIdeal.S16 32) (ix1 0) := by
  obtain rfl : c = 0 := Subsingleton.elim _ _
  show (m (((0 : Dev Cert.KernelIdeal.nD).tc : Thread Cert.KernelIdeal.nD Cert.KernelIdeal.τ).loc Cert.KernelIdeal.main_arg0) : IVec Cert.KernelIdeal.S16 32) _ = _
  refine congrArg (m (((0 : Dev Cert.KernelIdeal.nD).tc : Thread Cert.KernelIdeal.nD Cert.KernelIdeal.τ).loc Cert.KernelIdeal.main_arg0) : IVec Cert.KernelIdeal.S16 32) ?_
  funext a
  match a with
  | ⟨0, _⟩ => rfl

/-- From memories that agree on the arguments, the counts not negative, kernel and reference end with equal results. -/
theorem algebraic : Cert.algebraic_KernelIdeal_ReferenceIdeal_pre_counts_not_negative := by
  intro m ρ m' ρ' hpre hagree
  have hB : ∀ c j, 0 ≤ (Cert.KernelIdeal.Clean.bags m c j : BitVec 32).toInt := fun c j => counts_nonneg _ _ _ _ (hpre c) j
  refine ⟨fun c => Cert.KernelIdeal.Clean.outPool m c, fun c => Cert.KernelIdeal.Clean.outRows m c, Cert.KernelIdeal.Clean.run m ρ hB, ?_⟩
  refine (θ_run Cert.ReferenceIdeal.defs _ _).mono (fun r h c => ?_) (Cert.ReferenceIdeal.Value.run (F := Ideal) m' ρ')
  obtain ⟨h0, h1, hargs⟩ := h c
  obtain ⟨e0, e1, e2, e3⟩ := hagree c
  refine ⟨h0.trans ?_, h1.trans ?_, hargs⟩
  · funext i
    obtain ⟨b, d, rfl⟩ : ∃ (b : Fin 16) (d : Fin 256), i = ix2 b d := ⟨i 0, i 1, (eq_ix2 i)⟩
    refine (Cert.ReferenceIdeal.Read.out0_apply m' c b d).trans ?_
    rw [e0, e1, e2, e3, ← nu_eq m c]
    rfl
  · funext i
    obtain ⟨b, d, rfl⟩ : ∃ (b : Fin 100000) (d : Fin 256), i = ix2 b d := ⟨i 0, i 1, (eq_ix2 i)⟩
    refine (Cert.ReferenceIdeal.Read.out1_apply m' c b d).trans ?_
    rw [e0, e1, e2, ← nu_eq m c]
    rfl

end Cert.Bag

end
-- ==== Proof.lean ====
module

public import proofs.«01_k».proof.Defs
public import proofs.«01_k».proof.Proof.Kernel.Launch
public import proofs.«01_k».proof.Proof.KernelIdeal.Launch
public import proofs.«01_k».proof.Proof.Claims
public import proofs.«01_k».proof.Proof.Gen.ReferenceIdeal.Run
public import proofs.«01_k».proof.Proof.Gen.Pre_counts_not_negative
public import Idealize.ShloMosaic.Lib.Quiescent

@[expose] public section

noncomputable section

namespace Cert.Proof

open Idealize.ShloMosaic Idealize.SL.Sem

/-- The reference ends, its arguments unchanged, every semaphore at zero. -/
theorem reference_frame : Cert.quiescent_ReferenceIdeal := fun m ρ _ =>
  (θ_run (Cert.ReferenceIdeal.defs (F := Ideal)) _ _).mono
    (fun r h => ⟨fun c => (h c).2.2, Idealize.ShloMosaic.sem_eq_zero_of_no_sems (by decide) r.2⟩)
    (Cert.ReferenceIdeal.Value.run (F := Ideal) m ρ)

/-- Every claim of the certificate. -/
theorem claim : Cert.Claim :=
  ⟨Cert.Kernel.Gen.facts, Cert.KernelIdeal.Gen.facts, Cert.ReferenceIdeal.Gen.facts, Cert.Pre_counts_not_negative.Gen.facts,
    fun m ρ _ => Cert.Kernel.Clean.frame m ρ,
    fun m ρ _ => Cert.KernelIdeal.Clean.frame m ρ,
    fun m ρ _ => Cert.KernelIdeal.Clean.frame m ρ,
    reference_frame,
    fun m ρ _ => reference_frame m ρ trivial,
    trivial,
    Cert.Bag.algebraic⟩

end Cert.Proof

end
